-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5000x4 : Shape := ⟨2, ![5000, 4]⟩
abbrev S5000 : Shape := ⟨1, ![5000]⟩
abbrev S2000 : Shape := ⟨1, ![2000]⟩
abbrev S_ : Shape := ⟨0, ![]⟩
abbrev S2000x1 : Shape := ⟨2, ![2000, 1]⟩
abbrev S1 : Shape := ⟨1, ![1]⟩
abbrev S1x1 : Shape := ⟨2, ![1, 1]⟩
abbrev S2000x4 : Shape := ⟨2, ![2000, 4]⟩
abbrev S2048x4 : Shape := ⟨2, ![2048, 4]⟩
abbrev S2048x1 : Shape := ⟨2, ![2048, 1]⟩
abbrev S2048 : Shape := ⟨1, ![2048]⟩
abbrev S16x128 : Shape := ⟨2, ![16, 128]⟩
abbrev S128x128 : Shape := ⟨2, ![128, 128]⟩
abbrev S1x128 : Shape := ⟨2, ![1, 128]⟩
abbrev S128x1 : Shape := ⟨2, ![128, 1]⟩
abbrev S1x1x128 : Shape := ⟨3, ![1, 1, 128]⟩
abbrev S1x1x1 : Shape := ⟨3, ![1, 1, 1]⟩
abbrev S300 : Shape := ⟨1, ![300]⟩
abbrev S300x1 : Shape := ⟨2, ![300, 1]⟩
abbrev S300x4 : Shape := ⟨2, ![300, 4]⟩
abbrev S300x5 : Shape := ⟨2, ![300, 5]⟩

abbrev nBuf : Space → Nat
  | .hbm => 82
  | .vmem => 10
  | .smem => 0
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S2000, .f32⟩
  | .hbm, ⟨3, _⟩ => ⟨S2000, .i32⟩
  | .hbm, ⟨4, _⟩ => ⟨S_, .i32⟩
  | .hbm, ⟨5, _⟩ => ⟨S2000, .i32⟩
  | .hbm, ⟨6, _⟩ => ⟨S2000, .i1⟩
  | .hbm, ⟨7, _⟩ => ⟨S_, .i32⟩
  | .hbm, ⟨8, _⟩ => ⟨S2000, .i32⟩
  | .hbm, ⟨9, _⟩ => ⟨S2000, .i32⟩
  | .hbm, ⟨10, _⟩ => ⟨S2000, .i32⟩
  | .hbm, ⟨11, _⟩ => ⟨S2000x1, .i32⟩
  | .hbm, ⟨12, _⟩ => ⟨S1, .i32⟩
  | .hbm, ⟨13, _⟩ => ⟨S_, .i32⟩
  | .hbm, ⟨14, _⟩ => ⟨S2000x1, .i32⟩
  | .hbm, ⟨15, _⟩ => ⟨S2000x1, .i1⟩
  | .hbm, ⟨16, _⟩ => ⟨S1x1, .i32⟩
  | .hbm, ⟨17, _⟩ => ⟨S2000x1, .i32⟩
  | .hbm, ⟨18, _⟩ => ⟨S2000x1, .i1⟩
  | .hbm, ⟨19, _⟩ => ⟨S2000x1, .i1⟩
  | .hbm, ⟨20, _⟩ => ⟨S_, .i1⟩
  | .hbm, ⟨21, _⟩ => ⟨S2000, .i1⟩
  | .hbm, ⟨22, _⟩ => ⟨S2000x4, .f32⟩
  | .hbm, ⟨23, _⟩ => ⟨S2000x4, .i1⟩
  | .hbm, ⟨24, _⟩ => ⟨S_, .f32⟩
  | .hbm, ⟨25, _⟩ => ⟨S2000x4, .f32⟩
  | .hbm, ⟨26, _⟩ => ⟨S2000x4, .f32⟩
  | .hbm, ⟨27, _⟩ => ⟨S_, .i32⟩
  | .hbm, ⟨28, _⟩ => ⟨S_, .f32⟩
  | .hbm, ⟨29, _⟩ => ⟨S2048x4, .f32⟩
  | .hbm, ⟨30, _⟩ => ⟨S2048x1, .f32⟩
  | .hbm, ⟨31, _⟩ => ⟨S2048, .f32⟩
  | .hbm, ⟨32, _⟩ => ⟨S2048x1, .f32⟩
  | .hbm, ⟨33, _⟩ => ⟨S2048, .f32⟩
  | .hbm, ⟨34, _⟩ => ⟨S2048x1, .f32⟩
  | .hbm, ⟨35, _⟩ => ⟨S2048, .f32⟩
  | .hbm, ⟨36, _⟩ => ⟨S2048x1, .f32⟩
  | .hbm, ⟨37, _⟩ => ⟨S2048, .f32⟩
  | .hbm, ⟨38, _⟩ => ⟨S16x128, .f32⟩
  | .hbm, ⟨39, _⟩ => ⟨S16x128, .f32⟩
  | .hbm, ⟨40, _⟩ => ⟨S16x128, .f32⟩
  | .hbm, ⟨41, _⟩ => ⟨S16x128, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S16x128, .f32⟩
  | .hbm, ⟨47, _⟩ => ⟨S2048, .f32⟩
  | .hbm, ⟨48, _⟩ => ⟨S2000, .f32⟩
  | .hbm, ⟨49, _⟩ => ⟨S_, .f32⟩
  | .hbm, ⟨50, _⟩ => ⟨S2000, .f32⟩
  | .hbm, ⟨51, _⟩ => ⟨S2000, .i1⟩
  | .hbm, ⟨52, _⟩ => ⟨S_, .f32⟩
  | .hbm, ⟨53, _⟩ => ⟨S2000, .f32⟩
  | .hbm, ⟨54, _⟩ => ⟨S2000, .f32⟩
  | .hbm, ⟨55, _⟩ => ⟨S300, .f32⟩
  | .hbm, ⟨56, _⟩ => ⟨S300, .i32⟩
  | .hbm, ⟨57, _⟩ => ⟨S_, .i32⟩
  | .hbm, ⟨58, _⟩ => ⟨S300, .i32⟩
  | .hbm, ⟨59, _⟩ => ⟨S300, .i1⟩
  | .hbm, ⟨60, _⟩ => ⟨S_, .i32⟩
  | .hbm, ⟨61, _⟩ => ⟨S300, .i32⟩
  | .hbm, ⟨62, _⟩ => ⟨S300, .i32⟩
  | .hbm, ⟨63, _⟩ => ⟨S300, .i32⟩
  | .hbm, ⟨64, _⟩ => ⟨S300x1, .i32⟩
  | .hbm, ⟨65, _⟩ => ⟨S1, .i32⟩
  | .hbm, ⟨66, _⟩ => ⟨S_, .i32⟩
  | .hbm, ⟨67, _⟩ => ⟨S300x1, .i32⟩
  | .hbm, ⟨68, _⟩ => ⟨S300x1, .i1⟩
  | .hbm, ⟨69, _⟩ => ⟨S1x1, .i32⟩
  | .hbm, ⟨70, _⟩ => ⟨S300x1, .i32⟩
  | .hbm, ⟨71, _⟩ => ⟨S300x1, .i1⟩
  | .hbm, ⟨72, _⟩ => ⟨S300x1, .i1⟩
  | .hbm, ⟨73, _⟩ => ⟨S_, .i1⟩
  | .hbm, ⟨74, _⟩ => ⟨S300, .i1⟩
  | .hbm, ⟨75, _⟩ => ⟨S300x4, .f32⟩
  | .hbm, ⟨76, _⟩ => ⟨S300x4, .i1⟩
  | .hbm, ⟨77, _⟩ => ⟨S_, .f32⟩
  | .hbm, ⟨78, _⟩ => ⟨S300x4, .f32⟩
  | .hbm, ⟨79, _⟩ => ⟨S300x4, .f32⟩
  | .hbm, ⟨80, _⟩ => ⟨S300x1, .f32⟩
  | .hbm, ⟨81, _⟩ => ⟨S300x5, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S16x128, .f32⟩
  | .local _ .vmem, ⟨9, _⟩ => ⟨S128x128, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_c : Ref sig .tc := ⟨.hbm, 27, rfl⟩
abbrev main_call1_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst : Ref sig .tc := ⟨.hbm, 49, rfl⟩
abbrev main_v21 : Ref sig .tc := ⟨.hbm, 50, rfl⟩
abbrev main_v22 : Ref sig .tc := ⟨.hbm, 51, rfl⟩
abbrev main_cst_0 : Ref sig .tc := ⟨.hbm, 52, rfl⟩
abbrev main_v23 : Ref sig .tc := ⟨.hbm, 53, rfl⟩
abbrev main_v24 : Ref sig .tc := ⟨.hbm, 54, rfl⟩
abbrev main_values_1 : Ref sig .tc := ⟨.hbm, 55, rfl⟩
abbrev main_indices_2 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_c_1 : Ref sig .tc := ⟨.hbm, 65, rfl⟩
abbrev main_call3_c_2 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_c_3 : Ref sig .tc := ⟨.hbm, 73, rfl⟩
abbrev main_call3_v12 : Ref sig .tc := ⟨.hbm, 74, rfl⟩
abbrev main_call3_v13 : Ref sig .tc := ⟨.hbm, 75, rfl⟩
abbrev main_call3_v14 : Ref sig .tc := ⟨.hbm, 76, rfl⟩
abbrev main_call3_cst : Ref sig .tc := ⟨.hbm, 77, rfl⟩
abbrev main_call3_v15 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v58 : BitVec 32 := Scalar.addi c0_i32 c128_i32
  let c1_i32 : BitVec 32 := 1#32
  ⟨c0_i32, v58, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let v1121 : Index := Scalar.indexCast arg10
  let c0_567 : Index := 0#32
  ![v1121.toNat, 0]
def k0_off2 : Fin 2 → Nat :=
  let c0_i32_49 : BitVec 32 := 0#32
  let c128_i32_50 : BitVec 32 := 128#32
  let v118 : BitVec 32 := Scalar.muli c0_i32_49 c128_i32_50
  let v119 : Index := Scalar.indexCast v118
  let c0_51 : Index := 0#32
  ![v119.toNat, 0]
@[reducible] def k0_t2_loop : Scf.Loop 32 :=
  let c0_i32_71 : BitVec 32 := 0#32
  let c128_i32_72 : BitVec 32 := 128#32
  let v180 : BitVec 32 := Scalar.addi c0_i32_71 c128_i32_72
  let c1_i32_73 : BitVec 32 := 1#32
  ⟨c0_i32_71, v180, c1_i32_73⟩
def k0_off3 (k0_t2 : Fin k0_t2_loop.trips) : Fin 2 → Nat :=
  let c0_i32_71 : BitVec 32 := 0#32
  let c1_i32_73 : BitVec 32 := 1#32
  let arg10 : BitVec 32 := Scf.iv c0_i32_71 c1_i32_73 k0_t2
  let v1121 : Index := Scalar.indexCast arg10
  let c0_567 : Index := 0#32
  ![v1121.toNat, 0]
@[reducible] def k0_t3_loop : Scf.Loop 32 :=
  let c0_i32_100 : BitVec 32 := 0#32
  let c2_i32 : BitVec 32 := 2#32
  let v240 : BitVec 32 := Scalar.addi c0_i32_100 c2_i32
  let c1_i32_101 : BitVec 32 := 1#32
  ⟨c0_i32_100, v240, c1_i32_101⟩
def k0_off4 (k0_t3 : Fin k0_t3_loop.trips) : Fin 2 → Nat :=
  let c0_i32_100 : BitVec 32 := 0#32
  let c1_i32_101 : BitVec 32 := 1#32
  let arg10 : BitVec 32 := Scf.iv c0_i32_100 c1_i32_101 k0_t3
  let c128_i32_567 : BitVec 32 := 128#32
  let v1121 : BitVec 32 := Scalar.muli arg10 c128_i32_567
  let v1122 : Index := Scalar.indexCast v1121
  let c0_568 : Index := 0#32
  ![v1122.toNat, 0]
def k0_off5 (k0_t3 : Fin k0_t3_loop.trips) : Fin 2 → Nat :=
  let c0_i32_100 : BitVec 32 := 0#32
  let c1_i32_101 : BitVec 32 := 1#32
  let arg10 : BitVec 32 := Scf.iv c0_i32_100 c1_i32_101 k0_t3
  let v1171 : Index := Scalar.indexCast arg10
  let c0_581 : Index := 0#32
  ![v1171.toNat, 0]
@[reducible] def k0_t4_loop : Scf.Loop 32 :=
  let c0_i32_106 : BitVec 32 := 0#32
  let c128_i32_107 : BitVec 32 := 128#32
  let v247 : BitVec 32 := Scalar.addi c0_i32_106 c128_i32_107
  let c1_i32_108 : BitVec 32 := 1#32
  ⟨c0_i32_106, v247, c1_i32_108⟩
def k0_off6 (k0_t4 : Fin k0_t4_loop.trips) : Fin 2 → Nat :=
  let c0_i32_106 : BitVec 32 := 0#32
  let c1_i32_108 : BitVec 32 := 1#32
  let arg10 : BitVec 32 := Scf.iv c0_i32_106 c1_i32_108 k0_t4
  let v1121 : Index := Scalar.indexCast arg10
  let c0_567 : Index := 0#32
  ![v1121.toNat, 0]
@[reducible] def k0_t5_loop : Scf.Loop 32 :=
  let c0_i32_135 : BitVec 32 := 0#32
  let c3_i32 : BitVec 32 := 3#32
  let v307 : BitVec 32 := Scalar.addi c0_i32_135 c3_i32
  let c1_i32_136 : BitVec 32 := 1#32
  ⟨c0_i32_135, v307, c1_i32_136⟩
def k0_off7 (k0_t5 : Fin k0_t5_loop.trips) : Fin 2 → Nat :=
  let c0_i32_135 : BitVec 32 := 0#32
  let c1_i32_136 : BitVec 32 := 1#32
  let arg10 : BitVec 32 := Scf.iv c0_i32_135 c1_i32_136 k0_t5
  let c128_i32_567 : BitVec 32 := 128#32
  let v1121 : BitVec 32 := Scalar.muli arg10 c128_i32_567
  let v1122 : Index := Scalar.indexCast v1121
  let c0_568 : Index := 0#32
  ![v1122.toNat, 0]
def k0_off8 (k0_t5 : Fin k0_t5_loop.trips) : Fin 2 → Nat :=
  let c0_i32_135 : BitVec 32 := 0#32
  let c1_i32_136 : BitVec 32 := 1#32
  let arg10 : BitVec 32 := Scf.iv c0_i32_135 c1_i32_136 k0_t5
  let v1171 : Index := Scalar.indexCast arg10
  let c0_581 : Index := 0#32
  ![v1171.toNat, 0]
@[reducible] def k0_t6_loop : Scf.Loop 32 :=
  let c0_i32_141 : BitVec 32 := 0#32
  let c128_i32_142 : BitVec 32 := 128#32
  let v314 : BitVec 32 := Scalar.addi c0_i32_141 c128_i32_142
  let c1_i32_143 : BitVec 32 := 1#32
  ⟨c0_i32_141, v314, c1_i32_143⟩
def k0_off9 (k0_t6 : Fin k0_t6_loop.trips) : Fin 2 → Nat :=
  let c0_i32_141 : BitVec 32 := 0#32
  let c1_i32_143 : BitVec 32 := 1#32
  let arg10 : BitVec 32 := Scf.iv c0_i32_141 c1_i32_143 k0_t6
  let v1121 : Index := Scalar.indexCast arg10
  let c0_567 : Index := 0#32
  ![v1121.toNat, 0]
@[reducible] def k0_t7_loop : Scf.Loop 32 :=
  let c0_i32_170 : BitVec 32 := 0#32
  let c4_i32 : BitVec 32 := 4#32
  let v374 : BitVec 32 := Scalar.addi c0_i32_170 c4_i32
  let c1_i32_171 : BitVec 32 := 1#32
  ⟨c0_i32_170, v374, c1_i32_171⟩
def k0_off10 (k0_t7 : Fin k0_t7_loop.trips) : Fin 2 → Nat :=
  let c0_i32_170 : BitVec 32 := 0#32
  let c1_i32_171 : BitVec 32 := 1#32
  let arg10 : BitVec 32 := Scf.iv c0_i32_170 c1_i32_171 k0_t7
  let c128_i32_567 : BitVec 32 := 128#32
  let v1121 : BitVec 32 := Scalar.muli arg10 c128_i32_567
  let v1122 : Index := Scalar.indexCast v1121
  let c0_568 : Index := 0#32
  ![v1122.toNat, 0]
def k0_off11 (k0_t7 : Fin k0_t7_loop.trips) : Fin 2 → Nat :=
  let c0_i32_170 : BitVec 32 := 0#32
  let c1_i32_171 : BitVec 32 := 1#32
  let arg10 : BitVec 32 := Scf.iv c0_i32_170 c1_i32_171 k0_t7
  let v1171 : Index := Scalar.indexCast arg10
  let c0_581 : Index := 0#32
  ![v1171.toNat, 0]
@[reducible] def k0_t8_loop : Scf.Loop 32 :=
  let c0_i32_176 : BitVec 32 := 0#32
  let c128_i32_177 : BitVec 32 := 128#32
  let v381 : BitVec 32 := Scalar.addi c0_i32_176 c128_i32_177
  let c1_i32_178 : BitVec 32 := 1#32
  ⟨c0_i32_176, v381, c1_i32_178⟩
def k0_off12 (k0_t8 : Fin k0_t8_loop.trips) : Fin 2 → Nat :=
  let c0_i32_176 : BitVec 32 := 0#32
  let c1_i32_178 : BitVec 32 := 1#32
  let arg10 : BitVec 32 := Scf.iv c0_i32_176 c1_i32_178 k0_t8
  let v1121 : Index := Scalar.indexCast arg10
  let c0_567 : Index := 0#32
  ![v1121.toNat, 0]
@[reducible] def k0_t9_loop : Scf.Loop 32 :=
  let c0_i32_205 : BitVec 32 := 0#32
  let c5_i32 : BitVec 32 := 5#32
  let v441 : BitVec 32 := Scalar.addi c0_i32_205 c5_i32
  let c1_i32_206 : BitVec 32 := 1#32
  ⟨c0_i32_205, v441, c1_i32_206⟩
def k0_off13 (k0_t9 : Fin k0_t9_loop.trips) : Fin 2 → Nat :=
  let c0_i32_205 : BitVec 32 := 0#32
  let c1_i32_206 : BitVec 32 := 1#32
  let arg10 : BitVec 32 := Scf.iv c0_i32_205 c1_i32_206 k0_t9
  let c128_i32_567 : BitVec 32 := 128#32
  let v1121 : BitVec 32 := Scalar.muli arg10 c128_i32_567
  let v1122 : Index := Scalar.indexCast v1121
  let c0_568 : Index := 0#32
  ![v1122.toNat, 0]
def k0_off14 (k0_t9 : Fin k0_t9_loop.trips) : Fin 2 → Nat :=
  let c0_i32_205 : BitVec 32 := 0#32
  let c1_i32_206 : BitVec 32 := 1#32
  let arg10 : BitVec 32 := Scf.iv c0_i32_205 c1_i32_206 k0_t9
  let v1171 : Index := Scalar.indexCast arg10
  let c0_581 : Index := 0#32
  ![v1171.toNat, 0]
@[reducible] def k0_t10_loop : Scf.Loop 32 :=
  let c0_i32_211 : BitVec 32 := 0#32
  let c128_i32_212 : BitVec 32 := 128#32
  let v448 : BitVec 32 := Scalar.addi c0_i32_211 c128_i32_212
  let c1_i32_213 : BitVec 32 := 1#32
  ⟨c0_i32_211, v448, c1_i32_213⟩
def k0_off15 (k0_t10 : Fin k0_t10_loop.trips) : Fin 2 → Nat :=
  let c0_i32_211 : BitVec 32 := 0#32
  let c1_i32_213 : BitVec 32 := 1#32
  let arg10 : BitVec 32 := Scf.iv c0_i32_211 c1_i32_213 k0_t10
  let v1121 : Index := Scalar.indexCast arg10
  let c0_567 : Index := 0#32
  ![v1121.toNat, 0]
@[reducible] def k0_t11_loop : Scf.Loop 32 :=
  let c0_i32_240 : BitVec 32 := 0#32
  let c6_i32 : BitVec 32 := 6#32
  let v508 : BitVec 32 := Scalar.addi c0_i32_240 c6_i32
  let c1_i32_241 : BitVec 32 := 1#32
  ⟨c0_i32_240, v508, c1_i32_241⟩
def k0_off16 (k0_t11 : Fin k0_t11_loop.trips) : Fin 2 → Nat :=
  let c0_i32_240 : BitVec 32 := 0#32
  let c1_i32_241 : BitVec 32 := 1#32
  let arg10 : BitVec 32 := Scf.iv c0_i32_240 c1_i32_241 k0_t11
  let c128_i32_567 : BitVec 32 := 128#32
  let v1121 : BitVec 32 := Scalar.muli arg10 c128_i32_567
  let v1122 : Index := Scalar.indexCast v1121
  let c0_568 : Index := 0#32
  ![v1122.toNat, 0]
def k0_off17 (k0_t11 : Fin k0_t11_loop.trips) : Fin 2 → Nat :=
  let c0_i32_240 : BitVec 32 := 0#32
  let c1_i32_241 : BitVec 32 := 1#32
  let arg10 : BitVec 32 := Scf.iv c0_i32_240 c1_i32_241 k0_t11
  let v1171 : Index := Scalar.indexCast arg10
  let c0_581 : Index := 0#32
  ![v1171.toNat, 0]
@[reducible] def k0_t12_loop : Scf.Loop 32 :=
  let c0_i32_246 : BitVec 32 := 0#32
  let c128_i32_247 : BitVec 32 := 128#32
  let v515 : BitVec 32 := Scalar.addi c0_i32_246 c128_i32_247
  let c1_i32_248 : BitVec 32 := 1#32
  ⟨c0_i32_246, v515, c1_i32_248⟩
def k0_off18 (k0_t12 : Fin k0_t12_loop.trips) : Fin 2 → Nat :=
  let c0_i32_246 : BitVec 32 := 0#32
  let c1_i32_248 : BitVec 32 := 1#32
  let arg10 : BitVec 32 := Scf.iv c0_i32_246 c1_i32_248 k0_t12
  let v1121 : Index := Scalar.indexCast arg10
  let c0_567 : Index := 0#32
  ![v1121.toNat, 0]
@[reducible] def k0_t13_loop : Scf.Loop 32 :=
  let c0_i32_275 : BitVec 32 := 0#32
  let c7_i32 : BitVec 32 := 7#32
  let v575 : BitVec 32 := Scalar.addi c0_i32_275 c7_i32
  let c1_i32_276 : BitVec 32 := 1#32
  ⟨c0_i32_275, v575, c1_i32_276⟩
def k0_off19 (k0_t13 : Fin k0_t13_loop.trips) : Fin 2 → Nat :=
  let c0_i32_275 : BitVec 32 := 0#32
  let c1_i32_276 : BitVec 32 := 1#32
  let arg10 : BitVec 32 := Scf.iv c0_i32_275 c1_i32_276 k0_t13
  let c128_i32_567 : BitVec 32 := 128#32
  let v1121 : BitVec 32 := Scalar.muli arg10 c128_i32_567
  let v1122 : Index := Scalar.indexCast v1121
  let c0_568 : Index := 0#32
  ![v1122.toNat, 0]
def k0_off20 (k0_t13 : Fin k0_t13_loop.trips) : Fin 2 → Nat :=
  let c0_i32_275 : BitVec 32 := 0#32
  let c1_i32_276 : BitVec 32 := 1#32
  let arg10 : BitVec 32 := Scf.iv c0_i32_275 c1_i32_276 k0_t13
  let v1171 : Index := Scalar.indexCast arg10
  let c0_581 : Index := 0#32
  ![v1171.toNat, 0]
@[reducible] def k0_t14_loop : Scf.Loop 32 :=
  let c0_i32_281 : BitVec 32 := 0#32
  let c128_i32_282 : BitVec 32 := 128#32
  let v582 : BitVec 32 := Scalar.addi c0_i32_281 c128_i32_282
  let c1_i32_283 : BitVec 32 := 1#32
  ⟨c0_i32_281, v582, c1_i32_283⟩
def k0_off21 (k0_t14 : Fin k0_t14_loop.trips) : Fin 2 → Nat :=
  let c0_i32_281 : BitVec 32 := 0#32
  let c1_i32_283 : BitVec 32 := 1#32
  let arg10 : BitVec 32 := Scf.iv c0_i32_281 c1_i32_283 k0_t14
  let v1121 : Index := Scalar.indexCast arg10
  let c0_567 : Index := 0#32
  ![v1121.toNat, 0]
@[reducible] def k0_t15_loop : Scf.Loop 32 :=
  let c0_i32_310 : BitVec 32 := 0#32
  let c8_i32 : BitVec 32 := 8#32
  let v642 : BitVec 32 := Scalar.addi c0_i32_310 c8_i32
  let c1_i32_311 : BitVec 32 := 1#32
  ⟨c0_i32_310, v642, c1_i32_311⟩
def k0_off22 (k0_t15 : Fin k0_t15_loop.trips) : Fin 2 → Nat :=
  let c0_i32_310 : BitVec 32 := 0#32
  let c1_i32_311 : BitVec 32 := 1#32
  let arg10 : BitVec 32 := Scf.iv c0_i32_310 c1_i32_311 k0_t15
  let c128_i32_567 : BitVec 32 := 128#32
  let v1121 : BitVec 32 := Scalar.muli arg10 c128_i32_567
  let v1122 : Index := Scalar.indexCast v1121
  let c0_568 : Index := 0#32
  ![v1122.toNat, 0]
def k0_off23 (k0_t15 : Fin k0_t15_loop.trips) : Fin 2 → Nat :=
  let c0_i32_310 : BitVec 32 := 0#32
  let c1_i32_311 : BitVec 32 := 1#32
  let arg10 : BitVec 32 := Scf.iv c0_i32_310 c1_i32_311 k0_t15
  let v1171 : Index := Scalar.indexCast arg10
  let c0_581 : Index := 0#32
  ![v1171.toNat, 0]
@[reducible] def k0_t16_loop : Scf.Loop 32 :=
  let c0_i32_316 : BitVec 32 := 0#32
  let c128_i32_317 : BitVec 32 := 128#32
  let v649 : BitVec 32 := Scalar.addi c0_i32_316 c128_i32_317
  let c1_i32_318 : BitVec 32 := 1#32
  ⟨c0_i32_316, v649, c1_i32_318⟩
def k0_off24 (k0_t16 : Fin k0_t16_loop.trips) : Fin 2 → Nat :=
  let c0_i32_316 : BitVec 32 := 0#32
  let c1_i32_318 : BitVec 32 := 1#32
  let arg10 : BitVec 32 := Scf.iv c0_i32_316 c1_i32_318 k0_t16
  let v1121 : Index := Scalar.indexCast arg10
  let c0_567 : Index := 0#32
  ![v1121.toNat, 0]
@[reducible] def k0_t17_loop : Scf.Loop 32 :=
  let c0_i32_345 : BitVec 32 := 0#32
  let c9_i32 : BitVec 32 := 9#32
  let v709 : BitVec 32 := Scalar.addi c0_i32_345 c9_i32
  let c1_i32_346 : BitVec 32 := 1#32
  ⟨c0_i32_345, v709, c1_i32_346⟩
def k0_off25 (k0_t17 : Fin k0_t17_loop.trips) : Fin 2 → Nat :=
  let c0_i32_345 : BitVec 32 := 0#32
  let c1_i32_346 : BitVec 32 := 1#32
  let arg10 : BitVec 32 := Scf.iv c0_i32_345 c1_i32_346 k0_t17
  let c128_i32_567 : BitVec 32 := 128#32
  let v1121 : BitVec 32 := Scalar.muli arg10 c128_i32_567
  let v1122 : Index := Scalar.indexCast v1121
  let c0_568 : Index := 0#32
  ![v1122.toNat, 0]
def k0_off26 (k0_t17 : Fin k0_t17_loop.trips) : Fin 2 → Nat :=
  let c0_i32_345 : BitVec 32 := 0#32
  let c1_i32_346 : BitVec 32 := 1#32
  let arg10 : BitVec 32 := Scf.iv c0_i32_345 c1_i32_346 k0_t17
  let v1171 : Index := Scalar.indexCast arg10
  let c0_581 : Index := 0#32
  ![v1171.toNat, 0]
@[reducible] def k0_t18_loop : Scf.Loop 32 :=
  let c0_i32_351 : BitVec 32 := 0#32
  let c128_i32_352 : BitVec 32 := 128#32
  let v716 : BitVec 32 := Scalar.addi c0_i32_351 c128_i32_352
  let c1_i32_353 : BitVec 32 := 1#32
  ⟨c0_i32_351, v716, c1_i32_353⟩
def k0_off27 (k0_t18 : Fin k0_t18_loop.trips) : Fin 2 → Nat :=
  let c0_i32_351 : BitVec 32 := 0#32
  let c1_i32_353 : BitVec 32 := 1#32
  let arg10 : BitVec 32 := Scf.iv c0_i32_351 c1_i32_353 k0_t18
  let v1121 : Index := Scalar.indexCast arg10
  let c0_567 : Index := 0#32
  ![v1121.toNat, 0]
@[reducible] def k0_t19_loop : Scf.Loop 32 :=
  let c0_i32_380 : BitVec 32 := 0#32
  let c10_i32 : BitVec 32 := 10#32
  let v776 : BitVec 32 := Scalar.addi c0_i32_380 c10_i32
  let c1_i32_381 : BitVec 32 := 1#32
  ⟨c0_i32_380, v776, c1_i32_381⟩
def k0_off28 (k0_t19 : Fin k0_t19_loop.trips) : Fin 2 → Nat :=
  let c0_i32_380 : BitVec 32 := 0#32
  let c1_i32_381 : BitVec 32 := 1#32
  let arg10 : BitVec 32 := Scf.iv c0_i32_380 c1_i32_381 k0_t19
  let c128_i32_567 : BitVec 32 := 128#32
  let v1121 : BitVec 32 := Scalar.muli arg10 c128_i32_567
  let v1122 : Index := Scalar.indexCast v1121
  let c0_568 : Index := 0#32
  ![v1122.toNat, 0]
def k0_off29 (k0_t19 : Fin k0_t19_loop.trips) : Fin 2 → Nat :=
  let c0_i32_380 : BitVec 32 := 0#32
  let c1_i32_381 : BitVec 32 := 1#32
  let arg10 : BitVec 32 := Scf.iv c0_i32_380 c1_i32_381 k0_t19
  let v1171 : Index := Scalar.indexCast arg10
  let c0_581 : Index := 0#32
  ![v1171.toNat, 0]
@[reducible] def k0_t20_loop : Scf.Loop 32 :=
  let c0_i32_386 : BitVec 32 := 0#32
  let c128_i32_387 : BitVec 32 := 128#32
  let v783 : BitVec 32 := Scalar.addi c0_i32_386 c128_i32_387
  let c1_i32_388 : BitVec 32 := 1#32
  ⟨c0_i32_386, v783, c1_i32_388⟩
def k0_off30 (k0_t20 : Fin k0_t20_loop.trips) : Fin 2 → Nat :=
  let c0_i32_386 : BitVec 32 := 0#32
  let c1_i32_388 : BitVec 32 := 1#32
  let arg10 : BitVec 32 := Scf.iv c0_i32_386 c1_i32_388 k0_t20
  let v1121 : Index := Scalar.indexCast arg10
  let c0_567 : Index := 0#32
  ![v1121.toNat, 0]
@[reducible] def k0_t21_loop : Scf.Loop 32 :=
  let c0_i32_415 : BitVec 32 := 0#32
  let c11_i32 : BitVec 32 := 11#32
  let v843 : BitVec 32 := Scalar.addi c0_i32_415 c11_i32
  let c1_i32_416 : BitVec 32 := 1#32
  ⟨c0_i32_415, v843, c1_i32_416⟩
def k0_off31 (k0_t21 : Fin k0_t21_loop.trips) : Fin 2 → Nat :=
  let c0_i32_415 : BitVec 32 := 0#32
  let c1_i32_416 : BitVec 32 := 1#32
  let arg10 : BitVec 32 := Scf.iv c0_i32_415 c1_i32_416 k0_t21
  let c128_i32_567 : BitVec 32 := 128#32
  let v1121 : BitVec 32 := Scalar.muli arg10 c128_i32_567
  let v1122 : Index := Scalar.indexCast v1121
  let c0_568 : Index := 0#32
  ![v1122.toNat, 0]
def k0_off32 (k0_t21 : Fin k0_t21_loop.trips) : Fin 2 → Nat :=
  let c0_i32_415 : BitVec 32 := 0#32
  let c1_i32_416 : BitVec 32 := 1#32
  let arg10 : BitVec 32 := Scf.iv c0_i32_415 c1_i32_416 k0_t21
  let v1171 : Index := Scalar.indexCast arg10
  let c0_581 : Index := 0#32
  ![v1171.toNat, 0]
@[reducible] def k0_t22_loop : Scf.Loop 32 :=
  let c0_i32_421 : BitVec 32 := 0#32
  let c128_i32_422 : BitVec 32 := 128#32
  let v850 : BitVec 32 := Scalar.addi c0_i32_421 c128_i32_422
  let c1_i32_423 : BitVec 32 := 1#32
  ⟨c0_i32_421, v850, c1_i32_423⟩
def k0_off33 (k0_t22 : Fin k0_t22_loop.trips) : Fin 2 → Nat :=
  let c0_i32_421 : BitVec 32 := 0#32
  let c1_i32_423 : BitVec 32 := 1#32
  let arg10 : BitVec 32 := Scf.iv c0_i32_421 c1_i32_423 k0_t22
  let v1121 : Index := Scalar.indexCast arg10
  let c0_567 : Index := 0#32
  ![v1121.toNat, 0]
@[reducible] def k0_t23_loop : Scf.Loop 32 :=
  let c0_i32_450 : BitVec 32 := 0#32
  let c12_i32 : BitVec 32 := 12#32
  let v910 : BitVec 32 := Scalar.addi c0_i32_450 c12_i32
  let c1_i32_451 : BitVec 32 := 1#32
  ⟨c0_i32_450, v910, c1_i32_451⟩
def k0_off34 (k0_t23 : Fin k0_t23_loop.trips) : Fin 2 → Nat :=
  let c0_i32_450 : BitVec 32 := 0#32
  let c1_i32_451 : BitVec 32 := 1#32
  let arg10 : BitVec 32 := Scf.iv c0_i32_450 c1_i32_451 k0_t23
  let c128_i32_567 : BitVec 32 := 128#32
  let v1121 : BitVec 32 := Scalar.muli arg10 c128_i32_567
  let v1122 : Index := Scalar.indexCast v1121
  let c0_568 : Index := 0#32
  ![v1122.toNat, 0]
def k0_off35 (k0_t23 : Fin k0_t23_loop.trips) : Fin 2 → Nat :=
  let c0_i32_450 : BitVec 32 := 0#32
  let c1_i32_451 : BitVec 32 := 1#32
  let arg10 : BitVec 32 := Scf.iv c0_i32_450 c1_i32_451 k0_t23
  let v1171 : Index := Scalar.indexCast arg10
  let c0_581 : Index := 0#32
  ![v1171.toNat, 0]
@[reducible] def k0_t24_loop : Scf.Loop 32 :=
  let c0_i32_456 : BitVec 32 := 0#32
  let c128_i32_457 : BitVec 32 := 128#32
  let v917 : BitVec 32 := Scalar.addi c0_i32_456 c128_i32_457
  let c1_i32_458 : BitVec 32 := 1#32
  ⟨c0_i32_456, v917, c1_i32_458⟩
def k0_off36 (k0_t24 : Fin k0_t24_loop.trips) : Fin 2 → Nat :=
  let c0_i32_456 : BitVec 32 := 0#32
  let c1_i32_458 : BitVec 32 := 1#32
  let arg10 : BitVec 32 := Scf.iv c0_i32_456 c1_i32_458 k0_t24
  let v1121 : Index := Scalar.indexCast arg10
  let c0_567 : Index := 0#32
  ![v1121.toNat, 0]
@[reducible] def k0_t25_loop : Scf.Loop 32 :=
  let c0_i32_485 : BitVec 32 := 0#32
  let c13_i32 : BitVec 32 := 13#32
  let v977 : BitVec 32 := Scalar.addi c0_i32_485 c13_i32
  let c1_i32_486 : BitVec 32 := 1#32
  ⟨c0_i32_485, v977, c1_i32_486⟩
def k0_off37 (k0_t25 : Fin k0_t25_loop.trips) : Fin 2 → Nat :=
  let c0_i32_485 : BitVec 32 := 0#32
  let c1_i32_486 : BitVec 32 := 1#32
  let arg10 : BitVec 32 := Scf.iv c0_i32_485 c1_i32_486 k0_t25
  let c128_i32_567 : BitVec 32 := 128#32
  let v1121 : BitVec 32 := Scalar.muli arg10 c128_i32_567
  let v1122 : Index := Scalar.indexCast v1121
  let c0_568 : Index := 0#32
  ![v1122.toNat, 0]
def k0_off38 (k0_t25 : Fin k0_t25_loop.trips) : Fin 2 → Nat :=
  let c0_i32_485 : BitVec 32 := 0#32
  let c1_i32_486 : BitVec 32 := 1#32
  let arg10 : BitVec 32 := Scf.iv c0_i32_485 c1_i32_486 k0_t25
  let v1171 : Index := Scalar.indexCast arg10
  let c0_581 : Index := 0#32
  ![v1171.toNat, 0]
@[reducible] def k0_t26_loop : Scf.Loop 32 :=
  let c0_i32_491 : BitVec 32 := 0#32
  let c128_i32_492 : BitVec 32 := 128#32
  let v984 : BitVec 32 := Scalar.addi c0_i32_491 c128_i32_492
  let c1_i32_493 : BitVec 32 := 1#32
  ⟨c0_i32_491, v984, c1_i32_493⟩
def k0_off39 (k0_t26 : Fin k0_t26_loop.trips) : Fin 2 → Nat :=
  let c0_i32_491 : BitVec 32 := 0#32
  let c1_i32_493 : BitVec 32 := 1#32
  let arg10 : BitVec 32 := Scf.iv c0_i32_491 c1_i32_493 k0_t26
  let v1121 : Index := Scalar.indexCast arg10
  let c0_567 : Index := 0#32
  ![v1121.toNat, 0]
@[reducible] def k0_t27_loop : Scf.Loop 32 :=
  let c0_i32_520 : BitVec 32 := 0#32
  let c14_i32 : BitVec 32 := 14#32
  let v1044 : BitVec 32 := Scalar.addi c0_i32_520 c14_i32
  let c1_i32_521 : BitVec 32 := 1#32
  ⟨c0_i32_520, v1044, c1_i32_521⟩
def k0_off40 (k0_t27 : Fin k0_t27_loop.trips) : Fin 2 → Nat :=
  let c0_i32_520 : BitVec 32 := 0#32
  let c1_i32_521 : BitVec 32 := 1#32
  let arg10 : BitVec 32 := Scf.iv c0_i32_520 c1_i32_521 k0_t27
  let c128_i32_567 : BitVec 32 := 128#32
  let v1121 : BitVec 32 := Scalar.muli arg10 c128_i32_567
  let v1122 : Index := Scalar.indexCast v1121
  let c0_568 : Index := 0#32
  ![v1122.toNat, 0]
def k0_off41 (k0_t27 : Fin k0_t27_loop.trips) : Fin 2 → Nat :=
  let c0_i32_520 : BitVec 32 := 0#32
  let c1_i32_521 : BitVec 32 := 1#32
  let arg10 : BitVec 32 := Scf.iv c0_i32_520 c1_i32_521 k0_t27
  let v1171 : Index := Scalar.indexCast arg10
  let c0_581 : Index := 0#32
  ![v1171.toNat, 0]
@[reducible] def k0_t28_loop : Scf.Loop 32 :=
  let c0_i32_526 : BitVec 32 := 0#32
  let c128_i32_527 : BitVec 32 := 128#32
  let v1051 : BitVec 32 := Scalar.addi c0_i32_526 c128_i32_527
  let c1_i32_528 : BitVec 32 := 1#32
  ⟨c0_i32_526, v1051, c1_i32_528⟩
def k0_off42 (k0_t28 : Fin k0_t28_loop.trips) : Fin 2 → Nat :=
  let c0_i32_526 : BitVec 32 := 0#32
  let c1_i32_528 : BitVec 32 := 1#32
  let arg10 : BitVec 32 := Scf.iv c0_i32_526 c1_i32_528 k0_t28
  let v1121 : Index := Scalar.indexCast arg10
  let c0_567 : Index := 0#32
  ![v1121.toNat, 0]
@[reducible] def k0_t29_loop : Scf.Loop 32 :=
  let c0_i32_555 : BitVec 32 := 0#32
  let c15_i32 : BitVec 32 := 15#32
  let v1111 : BitVec 32 := Scalar.addi c0_i32_555 c15_i32
  let c1_i32_556 : BitVec 32 := 1#32
  ⟨c0_i32_555, v1111, c1_i32_556⟩
def k0_off43 (k0_t29 : Fin k0_t29_loop.trips) : Fin 2 → Nat :=
  let c0_i32_555 : BitVec 32 := 0#32
  let c1_i32_556 : BitVec 32 := 1#32
  let arg10 : BitVec 32 := Scf.iv c0_i32_555 c1_i32_556 k0_t29
  let c128_i32_567 : BitVec 32 := 128#32
  let v1121 : BitVec 32 := Scalar.muli arg10 c128_i32_567
  let v1122 : Index := Scalar.indexCast v1121
  let c0_568 : Index := 0#32
  ![v1122.toNat, 0]
def k0_off44 (k0_t29 : Fin k0_t29_loop.trips) : Fin 2 → Nat :=
  let c0_i32_555 : BitVec 32 := 0#32
  let c1_i32_556 : BitVec 32 := 1#32
  let arg10 : BitVec 32 := Scf.iv c0_i32_555 c1_i32_556 k0_t29
  let v1171 : Index := Scalar.indexCast arg10
  let c0_581 : Index := 0#32
  ![v1171.toNat, 0]
@[reducible] def k0_t30_loop : Scf.Loop 32 :=
  let c0_i32_561 : BitVec 32 := 0#32
  let c128_i32_562 : BitVec 32 := 128#32
  let v1118 : BitVec 32 := Scalar.addi c0_i32_561 c128_i32_562
  let c1_i32_563 : BitVec 32 := 1#32
  ⟨c0_i32_561, v1118, c1_i32_563⟩
def k0_off45 (k0_t30 : Fin k0_t30_loop.trips) : Fin 2 → Nat :=
  let c0_i32_561 : BitVec 32 := 0#32
  let c1_i32_563 : BitVec 32 := 1#32
  let arg10 : BitVec 32 := Scf.iv c0_i32_561 c1_i32_563 k0_t30
  let v1121 : Index := Scalar.indexCast arg10
  let c0_567 : Index := 0#32
  ![v1121.toNat, 0]
abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S2000 : Shape := ⟨1, ![2000]⟩
abbrev S_ : Shape := ⟨0, ![]⟩
abbrev S2000x1 : Shape := ⟨2, ![2000, 1]⟩
abbrev S1 : Shape := ⟨1, ![1]⟩
abbrev S1x1 : Shape := ⟨2, ![1, 1]⟩
abbrev S2000x4 : Shape := ⟨2, ![2000, 4]⟩
abbrev S2000x2 : Shape := ⟨2, ![2000, 2]⟩
abbrev S2000x1x2 : Shape := ⟨3, ![2000, 1, 2]⟩
abbrev S1x2000x2 : Shape := ⟨3, ![1, 2000, 2]⟩
abbrev S2000x2000x2 : Shape := ⟨3, ![2000, 2000, 2]⟩
abbrev S2000x2000x1 : Shape := ⟨3, ![2000, 2000, 1]⟩
abbrev S2000x2000 : Shape := ⟨2, ![2000, 2000]⟩
abbrev S1x2000 : Shape := ⟨2, ![1, 2000]⟩
abbrev S300 : Shape := ⟨1, ![300]⟩
abbrev S300x1 : Shape := ⟨2, ![300, 1]⟩
abbrev S300x4 : Shape := ⟨2, ![300, 4]⟩
abbrev S300x5 : Shape := ⟨2, ![300, 5]⟩

abbrev nBuf : Space → Nat
  | .hbm => 154
  | .vmem => 0
  | .smem => 0
  | _ => 0

abbrev hbmTy0_0 (i : Nat) : BufTy := match i % 128 with
  | 0 => ⟨S5000x4, .f32⟩
  | 1 => ⟨S5000, .f32⟩
  | 2 => ⟨S2000, .f32⟩
  | 3 => ⟨S2000, .i32⟩
  | 4 => ⟨S_, .i32⟩
  | 5 => ⟨S2000, .i32⟩
  | 6 => ⟨S2000, .i1⟩
  | 7 => ⟨S_, .i32⟩
  | 8 => ⟨S2000, .i32⟩
  | 9 => ⟨S2000, .i32⟩
  | 10 => ⟨S2000, .i32⟩
  | 11 => ⟨S2000x1, .i32⟩
  | 12 => ⟨S1, .i32⟩
  | 13 => ⟨S_, .i32⟩
  | 14 => ⟨S2000x1, .i32⟩
  | 15 => ⟨S2000x1, .i1⟩
  | 16 => ⟨S1x1, .i32⟩
  | 17 => ⟨S2000x1, .i32⟩
  | 18 => ⟨S2000x1, .i1⟩
  | 19 => ⟨S2000x1, .i1⟩
  | 20 => ⟨S_, .i1⟩
  | 21 => ⟨S2000, .i1⟩
  | 22 => ⟨S2000x4, .f32⟩
  | 23 => ⟨S2000x4, .i1⟩
  | 24 => ⟨S_, .f32⟩
  | 25 => ⟨S2000x4, .f32⟩
  | 26 => ⟨S2000x4, .f32⟩
  | 27 => ⟨S2000x1, .f32⟩
  | 28 => ⟨S2000, .f32⟩
  | 29 => ⟨S2000x1, .f32⟩
  | 30 => ⟨S2000, .f32⟩
  | 31 => ⟨S2000, .f32⟩
  | 32 => ⟨S2000x1, .f32⟩
  | 33 => ⟨S2000, .f32⟩
  | 34 => ⟨S2000x1, .f32⟩
  | 35 => ⟨S2000, .f32⟩
  | 36 => ⟨S2000, .f32⟩
  | 37 => ⟨S2000, .f32⟩
  | 38 => ⟨S2000x2, .f32⟩
  | 39 => ⟨S2000x1x2, .f32⟩
  | 40 => ⟨S2000x2, .f32⟩
  | 41 => ⟨S1x2000x2, .f32⟩
  | 42 => ⟨S2000x2000x2, .f32⟩
  | 43 => ⟨S2000x2000x2, .f32⟩
  | 44 => ⟨S2000x2000x2, .f32⟩
  | 45 => ⟨S2000x2, .f32⟩
  | 46 => ⟨S2000x1x2, .f32⟩
  | 47 => ⟨S2000x2, .f32⟩
  | 48 => ⟨S1x2000x2, .f32⟩
  | 49 => ⟨S2000x2000x2, .f32⟩
  | 50 => ⟨S2000x2000x2, .f32⟩
  | 51 => ⟨S2000x2000x2, .f32⟩
  | 52 => ⟨S2000x2000x2, .f32⟩
  | 53 => ⟨S_, .f32⟩
  | 54 => ⟨S_, .f32⟩
  | 55 => ⟨S2000x2000x2, .f32⟩
  | 56 => ⟨S2000x2000x2, .f32⟩
  | 57 => ⟨S2000x2000x1, .f32⟩
  | 58 => ⟨S2000x2000, .f32⟩
  | 59 => ⟨S2000x2000x1, .f32⟩
  | 60 => ⟨S2000x2000, .f32⟩
  | 61 => ⟨S2000x2000, .f32⟩
  | 62 => ⟨S2000x1, .f32⟩
  | 63 => ⟨S1x2000, .f32⟩
  | 64 => ⟨S2000x2000, .f32⟩
  | 65 => ⟨S2000x2000, .f32⟩
  | 66 => ⟨S2000x2000, .f32⟩
  | 67 => ⟨S2000x2000, .f32⟩
  | 68 => ⟨S_, .f32⟩
  | 69 => ⟨S2000x2000, .f32⟩
  | 70 => ⟨S2000x2000, .f32⟩
  | 71 => ⟨S2000x2000, .f32⟩
  | 72 => ⟨S2000, .i32⟩
  | 73 => ⟨S_, .i1⟩
  | 74 => ⟨S2000, .i1⟩
  | 75 => ⟨S_, .i32⟩
  | 76 => ⟨S_, .i32⟩
  | 77 => ⟨S2000x2000, .f32⟩
  | 78 => ⟨S2000, .i32⟩
  | 79 => ⟨S_, .i32⟩
  | 80 => ⟨S_, .i32⟩
  | 81 => ⟨S2000, .i1⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S1x2000, .f32⟩
  | 101 => ⟨S2000, .f32⟩
  | 102 => ⟨S_, .f32⟩
  | 103 => ⟨S2000, .f32⟩
  | 104 => ⟨S2000, .i1⟩
  | 105 => ⟨S_, .i32⟩
  | 106 => ⟨S2000, .i32⟩
  | 107 => ⟨S2000, .i1⟩
  | 108 => ⟨S2000, .i1⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S1, .i1⟩
  | 116 => ⟨S_, .i1⟩
  | 117 => ⟨S_, .i1⟩
  | 118 => ⟨S2000, .i1⟩
  | 119 => ⟨S2000, .i1⟩
  | 120 => ⟨S2000, .i1⟩
  | 121 => ⟨S_, .i32⟩
  | 122 => ⟨S_, .i32⟩
  | 123 => ⟨S2000, .i1⟩
  | 124 => ⟨S_, .f32⟩
  | 125 => ⟨S2000, .f32⟩
  | 126 => ⟨S2000, .f32⟩
  | 127 => ⟨S300, .f32⟩
  | _ => ⟨S5000x4, .f32⟩

abbrev hbmTy0_1 (i : Nat) : BufTy := match i % 128 with
  | 0 => ⟨S300, .i32⟩
  | 1 => ⟨S_, .i32⟩
  | 2 => ⟨S300, .i32⟩
  | 3 => ⟨S300, .i1⟩
  | 4 => ⟨S_, .i32⟩
  | 5 => ⟨S300, .i32⟩
  | 6 => ⟨S300, .i32⟩
  | 7 => ⟨S300, .i32⟩
  | 8 => ⟨S300x1, .i32⟩
  | 9 => ⟨S1, .i32⟩
  | 10 => ⟨S_, .i32⟩
  | 11 => ⟨S300x1, .i32⟩
  | 12 => ⟨S300x1, .i1⟩
  | 13 => ⟨S1x1, .i32⟩
  | 14 => ⟨S300x1, .i32⟩
  | 15 => ⟨S300x1, .i1⟩
  | 16 => ⟨S300x1, .i1⟩
  | 17 => ⟨S_, .i1⟩
  | 18 => ⟨S300, .i1⟩
  | 19 => ⟨S300x4, .f32⟩
  | 20 => ⟨S300x4, .i1⟩
  | 21 => ⟨S_, .f32⟩
  | 22 => ⟨S300x4, .f32⟩
  | 23 => ⟨S300x4, .f32⟩
  | 24 => ⟨S300x1, .f32⟩
  | 25 => ⟨S300x5, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_0 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c : Ref sig .tc := ⟨.hbm, 73, rfl⟩
abbrev main_v43 : Ref sig .tc := ⟨.hbm, 74, rfl⟩
abbrev main_c_1 : Ref sig .tc := ⟨.hbm, 75, rfl⟩
abbrev main_c_2 : Ref sig .tc := ⟨.hbm, 76, rfl⟩
abbrev main_v44_0 : Ref sig .tc := ⟨.hbm, 77, rfl⟩
abbrev main_v44_1 : Ref sig .tc := ⟨.hbm, 78, rfl⟩
abbrev main_v44_2 : Ref sig .tc := ⟨.hbm, 79, rfl⟩
abbrev main_v44_3 : Ref sig .tc := ⟨.hbm, 80, rfl⟩
abbrev main_v44_4 : Ref sig .tc := ⟨.hbm, 81, rfl⟩
abbrev main_while0c_c_10 : Ref sig .tc := ⟨.hbm, 82, rfl⟩
abbrev main_while0c_v51 : Ref sig .tc := ⟨.hbm, 83, rfl⟩
abbrev main_while0b_c_10 : Ref sig .tc := ⟨.hbm, 84, rfl⟩
abbrev main_while0b_v51 : Ref sig .tc := ⟨.hbm, 85, rfl⟩
abbrev main_while0b_v52 : Ref sig .tc := ⟨.hbm, 86, rfl⟩
abbrev main_while0b_c_11 : Ref sig .tc := ⟨.hbm, 87, rfl⟩
abbrev main_while0b_v53 : Ref sig .tc := ⟨.hbm, 88, rfl⟩
abbrev main_while0b_c_12 : Ref sig .tc := ⟨.hbm, 89, rfl⟩
abbrev main_while0b_v54 : Ref sig .tc := ⟨.hbm, 90, rfl⟩
abbrev main_while0b_v55 : Ref sig .tc := ⟨.hbm, 91, rfl⟩
abbrev main_while0b_c_13 : Ref sig .tc := ⟨.hbm, 92, rfl⟩
abbrev main_while0b_c_14 : Ref sig .tc := ⟨.hbm, 93, rfl⟩
abbrev main_while0b_v56 : Ref sig .tc := ⟨.hbm, 94, rfl⟩
abbrev main_while0b_c_15 : Ref sig .tc := ⟨.hbm, 95, rfl⟩
abbrev main_while0b_c_16 : Ref sig .tc := ⟨.hbm, 96, rfl⟩
abbrev main_while0b_v57 : Ref sig .tc := ⟨.hbm, 97, rfl⟩
abbrev main_while0b_c_17 : Ref sig .tc := ⟨.hbm, 98, rfl⟩
abbrev main_while0b_v58 : Ref sig .tc := ⟨.hbm, 99, rfl⟩
abbrev main_while0b_v59 : Ref sig .tc := ⟨.hbm, 100, rfl⟩
abbrev main_while0b_v60 : Ref sig .tc := ⟨.hbm, 101, rfl⟩
abbrev main_while0b_cst_18 : Ref sig .tc := ⟨.hbm, 102, rfl⟩
abbrev main_while0b_v61 : Ref sig .tc := ⟨.hbm, 103, rfl⟩
abbrev main_while0b_v62 : Ref sig .tc := ⟨.hbm, 104, rfl⟩
abbrev main_while0b_v63 : Ref sig .tc := ⟨.hbm, 105, rfl⟩
abbrev main_while0b_v64 : Ref sig .tc := ⟨.hbm, 106, rfl⟩
abbrev main_while0b_v65 : Ref sig .tc := ⟨.hbm, 107, rfl⟩
abbrev main_while0b_v66 : Ref sig .tc := ⟨.hbm, 108, rfl⟩
abbrev main_while0b_c_19 : Ref sig .tc := ⟨.hbm, 109, rfl⟩
abbrev main_while0b_v67 : Ref sig .tc := ⟨.hbm, 110, rfl⟩
abbrev main_while0b_v68 : Ref sig .tc := ⟨.hbm, 111, rfl⟩
abbrev main_while0b_c_20 : Ref sig .tc := ⟨.hbm, 112, rfl⟩
abbrev main_while0b_v69 : Ref sig .tc := ⟨.hbm, 113, rfl⟩
abbrev main_while0b_v70 : Ref sig .tc := ⟨.hbm, 114, rfl⟩
abbrev main_while0b_v71 : Ref sig .tc := ⟨.hbm, 115, rfl⟩
abbrev main_while0b_v72 : Ref sig .tc := ⟨.hbm, 116, rfl⟩
abbrev main_while0b_v73 : Ref sig .tc := ⟨.hbm, 117, rfl⟩
abbrev main_while0b_v74 : Ref sig .tc := ⟨.hbm, 118, rfl⟩
abbrev main_while0b_v75 : Ref sig .tc := ⟨.hbm, 119, rfl⟩
abbrev main_while0b_v76 : Ref sig .tc := ⟨.hbm, 120, rfl⟩
abbrev main_while0b_c_21 : Ref sig .tc := ⟨.hbm, 121, rfl⟩
abbrev main_while0b_v77 : Ref sig .tc := ⟨.hbm, 122, rfl⟩
abbrev main_v45 : Ref sig .tc := ⟨.hbm, 123, rfl⟩
abbrev main_cst_3 : Ref sig .tc := ⟨.hbm, 124, rfl⟩
abbrev main_v46 : Ref sig .tc := ⟨.hbm, 125, rfl⟩
abbrev main_v47 : Ref sig .tc := ⟨.hbm, 126, rfl⟩
abbrev main_values_4 : Ref sig .tc := ⟨.hbm, 127, rfl⟩
abbrev main_indices_5 : Ref sig .tc := ⟨.hbm, 128, rfl⟩
abbrev main_call3_c : Ref sig .tc := ⟨.hbm, 129, rfl⟩
abbrev main_call3_v0 : Ref sig .tc := ⟨.hbm, 130, rfl⟩
abbrev main_call3_v1 : Ref sig .tc := ⟨.hbm, 131, rfl⟩
abbrev main_call3_c_0 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_c_1 : Ref sig .tc := ⟨.hbm, 137, rfl⟩
abbrev main_call3_c_2 : Ref sig .tc := ⟨.hbm, 138, rfl⟩
abbrev main_call3_v6 : Ref sig .tc := ⟨.hbm, 139, rfl⟩
abbrev main_call3_v7 : Ref sig .tc := ⟨.hbm, 140, rfl⟩
abbrev main_call3_v8 : Ref sig .tc := ⟨.hbm, 141, rfl⟩
abbrev main_call3_v9 : Ref sig .tc := ⟨.hbm, 142, rfl⟩
abbrev main_call3_v10 : Ref sig .tc := ⟨.hbm, 143, rfl⟩
abbrev main_call3_v11 : Ref sig .tc := ⟨.hbm, 144, rfl⟩
abbrev main_call3_c_3 : Ref sig .tc := ⟨.hbm, 145, rfl⟩
abbrev main_call3_v12 : Ref sig .tc := ⟨.hbm, 146, rfl⟩
abbrev main_call3_v13 : Ref sig .tc := ⟨.hbm, 147, rfl⟩
abbrev main_call3_v14 : Ref sig .tc := ⟨.hbm, 148, rfl⟩
abbrev main_call3_cst : Ref sig .tc := ⟨.hbm, 149, rfl⟩
abbrev main_call3_v15 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩

abbrev nD : Nat := 1
abbrev τ : Topo := Topo.v7x

variable {F : FTy → Type} [FloatOps F]

abbrev main_while0_count : Scf.Loop 32 := ⟨0#32, 2000#32, 1#32⟩
-- ==== Proof.Nms.Block.lean ====
/- The kernel body read as one program per block of 128 boxes.

   The body handles sixteen blocks one after another. Here the program of one block is written once, for a block
   number, and the body is shown to be the sixteen of them in a row. Everything proved of a block is then proved once. -/
module

public import proofs.«01_k».proof.Proof.Gen.KernelIdeal

@[expose] public section

noncomputable section

namespace Cert.Nms

open Idealize.ShloMosaic Idealize.ShloMosaic.TcCoe
open Idealize.SL Idealize.SL.Sem
open Cert.KernelIdeal Cert.KernelIdeal.Facts₀ Cert.KernelIdeal.Facts

variable {F : FTy → Type} [FloatOps F]

/-- A row of 128 numbers. -/
abbrev Row (F : FTy → Type) := FVec F S1x128 .f32
/-- A column of 128 numbers. -/
abbrev Col (F : FTy → Type) := FVec F S128x1 .f32
/-- A square of 128 by 128 numbers. -/
abbrev Mat (F : FTy → Type) := FVec F S128x128 .f32

/-- The row that holds one number everywhere. -/
def rowOf (b : BitVec 32) : Row F := broadcast S1x128 (Scalar.ofBits .f32 b)
/-- The square that holds one number everywhere. -/
def matOf (b : BitVec 32) : Mat F := broadcast S128x128 (Scalar.ofBits .f32 b)

/-- The areas of the boxes with these corners. -/
def area {S : Shape} (x1 y1 x2 y2 : FVec F S .f32) : FVec F S .f32 := mulf (subf x2 x1) (subf y2 y1)

/-- The overlap area of every column box with every row box. -/
def inter (r0 r1 r2 r3 : Row F) (c0 c1 c2 c3 : Col F) : Mat F :=
  mulf
    (maximumf (subf (minimumf (broadcastTo S128x128 c2 broadcasts_S128x1_S128x128) (broadcastTo S128x128 r2 broadcasts_S1x128_S128x128))
      (maximumf (broadcastTo S128x128 c0 broadcasts_S128x1_S128x128) (broadcastTo S128x128 r0 broadcasts_S1x128_S128x128)))
      (matOf 0x00000000#32))
    (maximumf (subf (minimumf (broadcastTo S128x128 c3 broadcasts_S128x1_S128x128) (broadcastTo S128x128 r3 broadcasts_S1x128_S128x128))
      (maximumf (broadcastTo S128x128 c1 broadcasts_S128x1_S128x128) (broadcastTo S128x128 r1 broadcasts_S1x128_S128x128)))
      (matOf 0x00000000#32))

/-- One where the column box overlaps the row box by more than the threshold, zero elsewhere; `ra` is the row
    boxes' areas. -/
def hits (r0 r1 r2 r3 ra : Row F) (c0 c1 c2 c3 : Col F) : Mat F :=
  select
    (cmpf .ogt
      (divf (inter r0 r1 r2 r3 c0 c1 c2 c3)
        (maximumf
          (subf (addf (broadcastTo S128x128 (area c0 c1 c2 c3) broadcasts_S128x1_S128x128) (broadcastTo S128x128 ra broadcasts_S1x128_S128x128))
            (inter r0 r1 r2 r3 c0 c1 c2 c3))
          (matOf 0x3089705F#32)))
      (matOf 0x3F000000#32))
    (matOf 0x3F800000#32) (matOf 0x00000000#32)

/-- The box positions 0 to 127 within a block. -/
def lanes : IVec S1x128 32 := iota .tc S1x128 32 [1] iota_S1x128_d1_w32

/-- One step of the resolution within a block: box `iv`, unless it is suppressed in `acc`, suppresses the later
    boxes its row `row` of the overlap square marks. -/
def withinStep (iv : BitVec 32) (row acc : Row F) : Row F :=
  maximumf acc
    (mulf
      (mulf row (select (cmpi .sgt lanes (broadcast S1x128 iv)) (rowOf 0x3F800000#32) (rowOf 0x00000000#32)))
      (broadcast S1x128
        (Scalar.select
          (Scalar.cmpf .olt
            (extractAt ![0, 0, 0]
              (shapeCast S1x1x1
                (multiReduction .add [1, 2] S1
                  (shapeCast S1x1x128
                    (mulf acc (select (cmpi .eq lanes (broadcast S1x128 iv)) (rowOf 0x3F800000#32) (rowOf 0x00000000#32)))
                    shapeCasts_S1x128_S1x1x128)
                  0x00000000#32 reduces_S1x1x128_S1 (.inl rfl) rfl)
                shapeCasts_S1_S1x1x1)
              inpos_S1x1x1_p0_0_0)
            (Scalar.ofBits .f32 0x3F000000#32))
          (Scalar.ofBits .f32 0x3F800000#32) (Scalar.ofBits .f32 0x00000000#32))))

/-- One step over the earlier blocks: the kept boxes of an earlier block, whose suppression row is `s`, add the rows
    of the overlap square `h` they stand for. -/
def crossStep (s : Row F) (h : Mat F) (acc : Row F) : Row F :=
  addf acc (matmul dot_S1x128_S128x128_S1x128_1_0_0_1_n_n none (subf (rowOf 0x3F800000#32) s) h (constant S1x128 .f32 0x00000000#32))

/-- One where the sum is positive, zero elsewhere. -/
def positive (acc : Row F) : Row F :=
  select (cmpf .ogt acc (rowOf 0x00000000#32)) (rowOf 0x3F800000#32) (rowOf 0x00000000#32)

/-- Row `b` lies within sixteen rows. -/
theorem rowIn {b : Nat} (hb : b < 16) : ∀ a, (![b, 0] : Fin 2 → Nat) a + S1x128.size a ≤ S16x128.size a := by
  intro a; fin_cases a
  · show b + 1 ≤ 16; omega
  · show 0 + 128 ≤ 128; omega
/-- Row `i` lies within a square of 128 rows. -/
theorem squareRowIn {i : Nat} (hi : i < 128) : ∀ a, (![i, 0] : Fin 2 → Nat) a + S1x128.size a ≤ S128x128.size a := by
  intro a; fin_cases a
  · show i + 1 ≤ 128; omega
  · show 0 + 128 ≤ 128; omega
/-- The 128 entries from `o` on lie within a column of 2048. -/
theorem colIn {o : Nat} (ho : o + 128 ≤ 2048) : ∀ a, (![o, 0] : Fin 2 → Nat) a + S128x1.size a ≤ S2048x1.size a := by
  intro a; fin_cases a
  · show o + 128 ≤ 2048; omega
  · show 0 + 1 ≤ 1; omega

/-- The loop over the 128 boxes of a block. -/
@[reducible] def withinLoop : Scf.Loop 32 := ⟨0#32, Scalar.addi 0#32 128#32, 1#32⟩
/-- The loop over the `b` earlier blocks. -/
@[reducible] def crossLoop (b : Nat) : Scf.Loop 32 := ⟨0#32, Scalar.addi 0#32 (BitVec.ofNat 32 b), 1#32⟩

/-- The loop over a block's own boxes is well formed, -/
theorem withinLoop_ok : withinLoop.OK := by decide
/-- and has 128 trips. -/
theorem withinLoop_trips : withinLoop.trips = 128 := by decide
/-- The loop over the blocks before block `b` is well formed, -/
theorem crossLoop_ok : ∀ {b : Nat}, b < 16 → (crossLoop b).OK := by
  intro b hb; exact (by decide : ∀ b : Fin 16, (crossLoop b).OK) ⟨b, hb⟩
/-- and has `b` trips. -/
theorem crossLoop_trips : ∀ {b : Nat}, b < 16 → (crossLoop b).trips = b := by
  intro b hb; exact (by decide : ∀ b : Fin 16, (crossLoop b).trips = b) ⟨b, hb⟩

/-- The row of the square that trip `k` reads. -/
def withinOff (k : Fin withinLoop.trips) : Fin 2 → Nat := ![(Scalar.indexCast (Scf.iv 0#32 1#32 k)).toNat, 0]
/-- The first box of the earlier block that a trip works on. -/
def crossColOff (a : BitVec 32) : Fin 2 → Nat := ![(Scalar.indexCast (Scalar.muli a 128#32)).toNat, 0]
/-- The suppression row of the earlier block that a trip works on. -/
def crossRowOff (a : BitVec 32) : Fin 2 → Nat := ![(Scalar.indexCast a).toNat, 0]

/-- The loop variable at trip `k` is `k`. -/
theorem toNat_iv {k : Nat} (hk : k < 128) : (Scf.iv 0#32 1#32 k).toNat = k := by
  simp only [Scf.iv, BitVec.toNat_add, BitVec.toNat_mul, BitVec.toNat_ofNat]; omega

/-- Trip `k` reads row `k` of the block's square of overlaps, -/
theorem withinOff_eq (k : Fin withinLoop.trips) : withinOff k = ![k.val, 0] := by
  have hk : k.val < 128 := k.isLt.trans_eq withinLoop_trips
  unfold withinOff
  rw [show (Scalar.indexCast (Scf.iv 0#32 1#32 k.val)).toNat = k.val from toNat_iv hk]
/-- which lies inside the square. -/
theorem withinOff_in (k : Fin withinLoop.trips) : ∀ a, withinOff k a + S1x128.size a ≤ S128x128.size a := by
  rw [withinOff_eq]; exact squareRowIn (k.isLt.trans_eq withinLoop_trips)
/-- Trip `k` reads row `k` of the row layout, -/
theorem crossRowOff_eq {k : Nat} (hk : k < 16) : crossRowOff (Scf.iv 0#32 1#32 k) = ![k, 0] := by
  unfold crossRowOff
  rw [show (Scalar.indexCast (Scf.iv 0#32 1#32 k)).toNat = k from toNat_iv (by omega)]
/-- and the 128 rows from `128 k` of the column layout; -/
theorem crossColOff_eq {k : Nat} (hk : k < 16) : crossColOff (Scf.iv 0#32 1#32 k) = ![128 * k, 0] := by
  unfold crossColOff
  rw [show (Scalar.indexCast (Scalar.muli (Scf.iv 0#32 1#32 k) 128#32)).toNat = 128 * k from by
    show (Scf.iv 0#32 1#32 k * 128#32).toNat = 128 * k
    rw [BitVec.toNat_mul, toNat_iv (by omega)]
    show k * 128 % 2 ^ 32 = _
    omega]
/-- the first lies inside its array, -/
theorem crossRowOff_in {k : Nat} (hk : k < 16) : ∀ a, crossRowOff (Scf.iv 0#32 1#32 k) a + S1x128.size a ≤ S16x128.size a := by
  rw [crossRowOff_eq hk]; exact rowIn hk
/-- and so do the others. -/
theorem crossColOff_in {k : Nat} (hk : k < 16) : ∀ a, crossColOff (Scf.iv 0#32 1#32 k) a + S128x1.size a ≤ S2048x1.size a := by
  rw [crossColOff_eq hk]; exact colIn (by omega)

section Programs

variable (arg0 arg1 arg2 arg3 : Memref sig .tc .vmem S16x128 .f32) (arg4 arg5 arg6 arg7 : Memref sig .tc .vmem S2048x1 .f32)
  (arg8 : Memref sig .tc .vmem S16x128 .f32) (arg9 : Memref sig .tc .vmem S128x128 .f32)

/-- Read a row of a sixteen-row array. -/
abbrev loadRow (M : Memref sig .tc .vmem S16x128 .f32) (o : Fin 2 → Nat) (ho : ∀ a, o a + S1x128.size a ≤ S16x128.size a) :
    Prog (TpuEff nD τ sig (Elt F) Λ₀ .tc) (Vec F S1x128 .f32) :=
  Prog.lift (.load M (Rect.unit (s := S16x128) o S1x128.size ho).toLoadRect (View.loadsAt_vmem h_S1x128))
/-- Read 128 entries of a column. -/
abbrev loadCol (M : Memref sig .tc .vmem S2048x1 .f32) (o : Fin 2 → Nat) (ho : ∀ a, o a + S128x1.size a ≤ S2048x1.size a) :
    Prog (TpuEff nD τ sig (Elt F) Λ₀ .tc) (Vec F S128x1 .f32) :=
  Prog.lift (.load M (Rect.unit (s := S2048x1) o S128x1.size ho).toLoadRect (View.loadsAt_vmem h_S128x1))

/-- One earlier block's work on the sum: its boxes at `oc`, its suppression row at `or`. -/
def crossTrip (r0 r1 r2 r3 ra : Row F) (oc : Fin 2 → Nat) (hoc : ∀ a, oc a + S128x1.size a ≤ S2048x1.size a)
    (or : Fin 2 → Nat) (hor : ∀ a, or a + S1x128.size a ≤ S16x128.size a) (acc : Row F) :
    Prog (TpuEff nD τ sig (Elt F) Λ₀ .tc) (Row F) := do
  let c0 : Vec F S128x1 .f32 ← loadCol arg4 oc hoc
  let c1 : Vec F S128x1 .f32 ← loadCol arg5 oc hoc
  let c2 : Vec F S128x1 .f32 ← loadCol arg6 oc hoc
  let c3 : Vec F S128x1 .f32 ← loadCol arg7 oc hoc
  let s : Vec F S1x128 .f32 ← loadRow arg8 or hor
  pure (crossStep (shapeCast S1x128 s shapeCasts_S1x128_S1x128)
    (hits r0 r1 r2 r3 ra (shapeCast S128x1 c0 shapeCasts_S128x1_S128x1) (shapeCast S128x1 c1 shapeCasts_S128x1_S128x1)
      (shapeCast S128x1 c2 shapeCasts_S128x1_S128x1) (shapeCast S128x1 c3 shapeCasts_S128x1_S128x1)) acc)

/-- One box's step of the resolution within a block. -/
def withinTrip (k : Fin withinLoop.trips) (acc : Row F) : Prog (TpuEff nD τ sig (Elt F) Λ₀ .tc) (Row F) := do
  let row : Vec F S1x128 .f32 ← Prog.lift (.load arg9 (Rect.unit (s := S128x128) (withinOff k) S1x128.size (withinOff_in k)).toLoadRect (View.loadsAt_vmem h_S1x128))
  pure (withinStep (Scf.iv 0#32 1#32 k) row acc)

/-- What earlier blocks do to the boxes of block 0, of block 1 and of a later one. -/
def crossPart : (b : Nat) → b < 16 → (r0 r1 r2 r3 ra : Row F) → Prog (TpuEff nD τ sig (Elt F) Λ₀ .tc) (Row F)
  | 0, _, _, _, _, _, _ => pure (rowOf 0x00000000#32)
  | 1, _, r0, r1, r2, r3, ra => do
    let acc ← crossTrip arg4 arg5 arg6 arg7 arg8 r0 r1 r2 r3 ra k0_off2 k0_off2_inb ![0, 0] inb_S16x128_S1x128_0_0 (rowOf 0x00000000#32)
    pure (positive acc)
  | b + 2, hb, r0, r1, r2, r3, ra => do
    let acc : Row F ← Scf.Loop.for (crossLoop (b + 2)) (crossLoop_ok hb) (rowOf 0x00000000#32) fun k acc =>
      crossTrip arg4 arg5 arg6 arg7 arg8 r0 r1 r2 r3 ra (crossColOff (Scf.iv 0#32 1#32 k))
        (crossColOff_in ((k.isLt.trans_eq (crossLoop_trips hb)).trans hb))
        (crossRowOff (Scf.iv 0#32 1#32 k)) (crossRowOff_in ((k.isLt.trans_eq (crossLoop_trips hb)).trans hb)) acc
    pure (positive acc)

/-- The program of block `b`: its overlap square, what earlier blocks suppress in it, the resolution within it, and
    its suppression row written out. -/
def blockProg (b : Nat) (hb : b < 16) : Prog (TpuEff nD τ sig (Elt F) Λ₀ .tc) PUnit := do
  let r0 : Vec F S1x128 .f32 ← loadRow arg0 ![b, 0] (rowIn hb)
  let r1 : Vec F S1x128 .f32 ← loadRow arg1 ![b, 0] (rowIn hb)
  let r2 : Vec F S1x128 .f32 ← loadRow arg2 ![b, 0] (rowIn hb)
  let r3 : Vec F S1x128 .f32 ← loadRow arg3 ![b, 0] (rowIn hb)
  let c0 : Vec F S128x1 .f32 ← loadCol arg4 ![128 * b, 0] (colIn (by omega))
  let c1 : Vec F S128x1 .f32 ← loadCol arg5 ![128 * b, 0] (colIn (by omega))
  let c2 : Vec F S128x1 .f32 ← loadCol arg6 ![128 * b, 0] (colIn (by omega))
  let c3 : Vec F S128x1 .f32 ← loadCol arg7 ![128 * b, 0] (colIn (by omega))
  let _ : Vec F S128x128 .f32 ← Prog.lift (.load arg9 (Rect.unit (s := S128x128) ![0, 0] S128x128.size inb_S128x128_S128x128_0_0).toLoadRect (View.loadsAt_vmem h_S128x128))
  Prog.lift (.store arg9 (Rect.unit (s := S128x128) ![0, 0] S128x128.size inb_S128x128_S128x128_0_0)
    (shapeCast S128x128
      (hits (shapeCast S1x128 r0 shapeCasts_S1x128_S1x128) (shapeCast S1x128 r1 shapeCasts_S1x128_S1x128)
        (shapeCast S1x128 r2 shapeCasts_S1x128_S1x128) (shapeCast S1x128 r3 shapeCasts_S1x128_S1x128)
        (area (shapeCast S1x128 r0 shapeCasts_S1x128_S1x128) (shapeCast S1x128 r1 shapeCasts_S1x128_S1x128)
          (shapeCast S1x128 r2 shapeCasts_S1x128_S1x128) (shapeCast S1x128 r3 shapeCasts_S1x128_S1x128))
        (shapeCast S128x1 c0 shapeCasts_S128x1_S128x1) (shapeCast S128x1 c1 shapeCasts_S128x1_S128x1)
        (shapeCast S128x1 c2 shapeCasts_S128x1_S128x1) (shapeCast S128x1 c3 shapeCasts_S128x1_S128x1))
      shapeCasts_S128x128_S128x128)
    Finset.univ (View.stores_vmem_bits_univ h_S128x128 rfl) (.inl rfl))
  let s0 : Row F ← crossPart arg4 arg5 arg6 arg7 arg8 b hb (shapeCast S1x128 r0 shapeCasts_S1x128_S1x128) (shapeCast S1x128 r1 shapeCasts_S1x128_S1x128)
    (shapeCast S1x128 r2 shapeCasts_S1x128_S1x128) (shapeCast S1x128 r3 shapeCasts_S1x128_S1x128)
    (area (shapeCast S1x128 r0 shapeCasts_S1x128_S1x128) (shapeCast S1x128 r1 shapeCasts_S1x128_S1x128)
      (shapeCast S1x128 r2 shapeCasts_S1x128_S1x128) (shapeCast S1x128 r3 shapeCasts_S1x128_S1x128))
  let s : Row F ← Scf.Loop.for withinLoop withinLoop_ok s0 (withinTrip arg9)
  let _ : Vec F S1x128 .f32 ← loadRow arg8 ![b, 0] (rowIn hb)
  Prog.lift (.store arg8 (Rect.unit (s := S16x128) ![b, 0] S1x128.size (rowIn hb)) s Finset.univ (View.stores_vmem_bits_univ h_S1x128 rfl) (.inl rfl))

/-- The blocks from `b` on, `n` of them, in a row. -/
def blocksFrom : (n b : Nat) → b + n ≤ 16 → Prog (TpuEff nD τ sig (Elt F) Λ₀ .tc) PUnit
  | 0, _, _ => pure ⟨⟩
  | n + 1, b, h => do
    blockProg arg0 arg1 arg2 arg3 arg4 arg5 arg6 arg7 arg8 arg9 b (by omega)
    blocksFrom n (b + 1) (by omega)

end Programs

end Cert.Nms

end
-- ==== Proof.Nms.Body.lean ====
/- The kernel body is its sixteen blocks in a row. -/
module

public import proofs.«01_k».proof.Proof.Nms.Block

@[expose] public section

set_option maxRecDepth 16384

noncomputable section

namespace Cert.Nms

open Idealize.ShloMosaic Idealize.ShloMosaic.TcCoe
open Idealize.SL Idealize.SL.Sem
open Cert.KernelIdeal Cert.KernelIdeal.Facts₀ Cert.KernelIdeal.Facts

variable {F : FTy → Type} [FloatOps F]

set_option maxHeartbeats 4000000 in
/-- The kernel body is its sixteen blocks in a row. -/
theorem body_eq_blocks (arg0 : Memref sig .tc .vmem S16x128 .f32) (harg0 : arg0.IsWhole) (arg1 : Memref sig .tc .vmem S16x128 .f32) (harg1 : arg1.IsWhole) (arg2 : Memref sig .tc .vmem S16x128 .f32) (harg2 : arg2.IsWhole) (arg3 : Memref sig .tc .vmem S16x128 .f32) (harg3 : arg3.IsWhole)
    (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole)
    (arg8 : Memref sig .tc .vmem S16x128 .f32) (harg8 : arg8.IsWhole) (arg9 : Memref sig .tc .vmem S128x128 .f32) (harg9 : arg9.IsWhole) :
    cc0__nms_kernel (F := F) arg0 harg0 arg1 harg1 arg2 harg2 arg3 harg3 arg4 harg4 arg5 harg5 arg6 harg6 arg7 harg7 arg8 harg8 arg9 harg9
      = blocksFrom arg0 arg1 arg2 arg3 arg4 arg5 arg6 arg7 arg8 arg9 16 0 (by omega) := by
  unfold cc0__nms_kernel
  simp only [k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, bind_assoc, Prog.bind_ret, Prog.pure_eq_ret]
  simp only [blocksFrom, blockProg, crossPart, bind_assoc, Prog.bind_ret, Prog.pure_eq_ret]
  rfl

end Cert.Nms

end
-- ==== Proof.Nms.Triple.lean ====
/- What one block of the kernel body does, as a triple stated for every block number: the row it writes is a function
   of the boxes and of the suppression rows already written. -/
module

public import proofs.«01_k».proof.Proof.Nms.Block
public import Idealize.ShloMosaic.Lib.Pipeline.FrameBody
public import Idealize.ShloMosaic.Lib.Tactic
public import Idealize.ShloMosaic.Lib.ValueIdxCoords

@[expose] public section

noncomputable section

namespace Cert.Nms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2)
open Cert.KernelIdeal Cert.KernelIdeal.Facts₀ Cert.KernelIdeal.Facts

variable {F : FTy → Type} [FloatOps F]

local notation "𝕄" => MT nD τ sig Unit (Elt F) ℕ (UR sig nD τ) ℕ

/-! ## The values -/

/-- Row `b` of a sixteen-row array. -/
def rowAt (X : Vec F S16x128 .f32) (b : Nat) : Vec F S1x128 .f32 := fun i => X (ix2 ⟨b % 16, Nat.mod_lt _ (by decide)⟩ (i 1))
/-- The 128 entries of block `b` of a column. -/
def colAt (X : Vec F S2048x1 .f32) (b : Nat) : Vec F S128x1 .f32 :=
  fun i => X (ix2 ⟨(128 * b + (i 0).val) % 2048, Nat.mod_lt _ (by decide)⟩ 0)
/-- Row `i` of a square. -/
def squareRow (H : Mat F) (i : Nat) : Row F := fun j => H (ix2 ⟨i % 128, Nat.mod_lt _ (by decide)⟩ (j 1))
/-- The array with row `b` replaced. -/
def setRow (X : Vec F S16x128 .f32) (b : Nat) (w : Row F) : Vec F S16x128 .f32 :=
  fun j => if (j 0).val = b then w (ix2 0 (j 1)) else X j

/-- The boxes' corners, in rows and in columns. -/
structure Boxes (F : FTy → Type) where
  r0 : Vec F S16x128 .f32
  r1 : Vec F S16x128 .f32
  r2 : Vec F S16x128 .f32
  r3 : Vec F S16x128 .f32
  c0 : Vec F S2048x1 .f32
  c1 : Vec F S2048x1 .f32
  c2 : Vec F S2048x1 .f32
  c3 : Vec F S2048x1 .f32

variable (B : Boxes F)

/-- Row `b` as the kernel uses it. -/
abbrev rowUse (X : Vec F S16x128 .f32) (b : Nat) : Row F := shapeCast S1x128 (rowAt X b) shapeCasts_S1x128_S1x128
/-- Block `b` of a column as the kernel uses it. -/
abbrev colUse (X : Vec F S2048x1 .f32) (b : Nat) : Col F := shapeCast S128x1 (colAt X b) shapeCasts_S128x1_S128x1

/-- Which boxes of block `a` overlap which boxes of block `b` too much. -/
def blockHits (a b : Nat) : Mat F :=
  hits (rowUse B.r0 b) (rowUse B.r1 b) (rowUse B.r2 b) (rowUse B.r3 b)
    (area (rowUse B.r0 b) (rowUse B.r1 b) (rowUse B.r2 b) (rowUse B.r3 b))
    (colUse B.c0 a) (colUse B.c1 a) (colUse B.c2 a) (colUse B.c3 a)

/-- The sum after `k` earlier blocks. -/
def crossIter (b : Nat) (S : Vec F S16x128 .f32) : Nat → Row F
  | 0 => rowOf 0x00000000#32
  | k + 1 => crossStep (rowUse S k) (blockHits B k b) (crossIter b S k)

/-- What the earlier blocks suppress in block `b`. -/
def crossResult : Nat → Vec F S16x128 .f32 → Row F
  | 0, _ => rowOf 0x00000000#32
  | b + 1, S => positive (crossIter B (b + 1) S (b + 1))

/-- The row after `k` steps of the resolution within a block. -/
def withinIter (H : Mat F) (s : Row F) : Nat → Row F
  | 0 => s
  | k + 1 => withinStep (Scf.iv 0#32 1#32 k) (squareRow H k) (withinIter H s k)

/-- The suppression row block `b` writes. -/
def blockRow (b : Nat) (S : Vec F S16x128 .f32) : Row F :=
  withinIter (shapeCast S128x128 (blockHits B b b) shapeCasts_S128x128_S128x128) (crossResult B b S) 128

/-! ## Reading and writing -/

variable (c : Dev nD) (E : Set ℕ)

/-- Loading row `b` of an array in the row layout gives that row. -/
theorem ld_row (X : Vec F S16x128 .f32) {b : Nat} (hb : b < 16) :
    View.ld X (Rect.unit (s := S16x128) ![b, 0] S1x128.size (rowIn hb)) = rowAt X b := by
  funext i
  unfold rowAt
  refine congrArg X (funext fun a => Fin.ext ?_)
  fin_cases a
  · have : (i 0).val < 1 := (i 0).isLt
    show b + 1 * (i 0).val = b % 16
    omega
  · show 0 + 1 * (i 1).val = (i 1).val
    omega

/-- Loading 128 rows from `128 b` of an array in the column layout gives that block. -/
theorem ld_col (X : Vec F S2048x1 .f32) {b : Nat} (hb : b < 16) :
    View.ld X (Rect.unit (s := S2048x1) ![128 * b, 0] S128x1.size (colIn (by omega))) = colAt X b := by
  funext i
  unfold colAt
  refine congrArg X (funext fun a => Fin.ext ?_)
  fin_cases a
  · have : (i 0).val < 128 := (i 0).isLt
    show 128 * b + 1 * (i 0).val = (128 * b + (i 0).val) % 2048
    omega
  · have : (i 1).val < 1 := (i 1).isLt
    show 0 + 1 * (i 1).val = 0
    omega

/-- Loading row `i` of a square gives that row. -/
theorem ld_square (H : Mat F) {i : Nat} (hi : i < 128) :
    View.ld (Val := Elt F) (e' := .f32) H (Rect.unit (s := S128x128) ![i, 0] S1x128.size (squareRowIn hi)) = squareRow H i := by
  funext j
  unfold squareRow
  refine congrArg H (funext fun a => Fin.ext ?_)
  fin_cases a
  · have : (j 0).val < 1 := (j 0).isLt
    show i + 1 * (j 0).val = i % 128
    omega
  · show 0 + 1 * (j 1).val = (j 1).val
    omega

/-- Storing a row at row `b` sets that row and no other. -/
theorem overlay_row (X : Vec F S16x128 .f32) {b : Nat} (hb : b < 16) (w : Row F) :
    (Rect.unit (s := S16x128) ![b, 0] S1x128.size (rowIn hb)).overlay X w = setRow X b w := by
  funext j
  unfold setRow
  by_cases h : (j 0).val = b
  · rw [if_pos h]
    have hj : j = (Rect.unit (s := S16x128) ![b, 0] S1x128.size (rowIn hb)).emb (ix2 0 (j 1)) := by
      funext a
      refine Fin.ext ?_
      fin_cases a
      · show (j 0).val = b + 1 * 0
        omega
      · show (j 1).val = 0 + 1 * (j 1).val
        omega
    conv_lhs => rw [hj]
    exact Rect.overlay_emb _ _ _ _
  · rw [if_neg h]
    refine Rect.overlay_of_not_mem _ _ _ fun hm => h ?_
    obtain ⟨i, hi⟩ := (Rect.unit (s := S16x128) ![b, 0] S1x128.size (rowIn hb)).exists_idx_of_mem hm
    have h0 : (i 0).val < 1 := (i 0).isLt
    rw [← hi]
    show b + 1 * (i 0).val = b
    omega

/-- Storing a whole square replaces it. -/
theorem overlay_square (X w : Mat F) :
    (Rect.unit (s := S128x128) ![0, 0] S128x128.size inb_S128x128_S128x128_0_0).overlay X w = w := by
  funext j
  have hj : j = (Rect.unit (s := S128x128) ![0, 0] S128x128.size inb_S128x128_S128x128_0_0).emb j := by
    funext a
    refine Fin.ext ?_
    fin_cases a
    · show (j 0).val = 0 + 1 * (j 0).val
      omega
    · show (j 1).val = 0 + 1 * (j 1).val
      omega
  conv_lhs => rw [hj]
  exact Rect.overlay_emb _ _ _ _

/-- A program that only returns a value. -/
theorem value_wp {α : Type} {a : α} {Q : α → sProp 𝕄} :
    Q a ⊢ wp frame (wpE (defs₀ (F := F)) Variants.none c none) E (Pure.pure a) Q := by
  rw [wp_pure]
  iintro H
  imodintro
  iexact H

/-- A load reads the rectangle of what the memref holds. -/
theorem load_owns {s : Shape} {M : Memref sig .tc .vmem s .f32} {X : Vec F s .f32} {r : Rect s} {hl : M.view.LoadsAt r.toLoadRect} {α : Type}
    {k : (r.shape.Idx → Elt F .f32) → Prog (TpuEff nD τ sig (Elt F) Λ₀ .tc) α} {Q : α → sProp 𝕄} :
    owns (c : Thread nD τ) M fullShare X
      ⊢ iprop((owns (c : Thread nD τ) M fullShare X -∗ wp frame (wpE (defs₀ (F := F)) Variants.none c none) E (k (View.ld X r)) Q)
        -∗ wp frame (wpE (defs₀ (F := F)) Variants.none c none) E (Prog.lift (.load M r.toLoadRect hl) >>= k) Q) := by
  unfold owns
  iintro ⟨%f, %hf, H⟩ Hk
  iapply (wp_load (defs := defs₀ (F := F)) Variants.none (c : Thread nD τ) none E (Q := Q) (m := M) (r := r.toLoadRect) (hl := hl) (k := k)
    (S := M.view.set) (q := fullShare) (f := f) (View.setOn_subset_set _ _)) $$ H
  iintro H
  subst hf
  iapply Hk
  iexists f
  isplitr
  · ipureintro; rfl
  · iexact H

/-- A store replaces the rectangle of what the memref holds. -/
theorem store_owns {s : Shape} {M : Memref sig .tc .vmem s .f32} {X : Vec F s .f32} {r : Rect s} {w : r.shape.Idx → Elt F .f32}
    {hx : (M.access r).Stores Finset.univ} {hm : Finset.univ = Finset.univ ∨ ∀ a, r.stride a = 1} {α : Type}
    {k : PUnit → Prog (TpuEff nD τ sig (Elt F) Λ₀ .tc) α} {Q : α → sProp 𝕄} :
    owns (c : Thread nD τ) M fullShare X
      ⊢ iprop((owns (c : Thread nD τ) M fullShare (r.overlay X w) -∗ wp frame (wpE (defs₀ (F := F)) Variants.none c none) E (k ⟨⟩) Q)
        -∗ wp frame (wpE (defs₀ (F := F)) Variants.none c none) E (Prog.lift (.store M r w Finset.univ hx hm) >>= k) Q) := by
  unfold owns
  iintro ⟨%f, %hf, H⟩ Hk
  iapply (wp_store (defs := defs₀ (F := F)) Variants.none (c : Thread nD τ) none E (Q := Q) (m := M) (r := r) (w := w) (Mk := Finset.univ)
    (hx := hx) (hm := hm) (k := k) (S := M.view.set) (f := f) (M.view.set_slice_subset r)) $$ H
  iintro H
  subst hf
  iapply Hk
  iexists _
  isplitr
  swap; · iexact H
  ipureintro
  funext j
  by_cases hj : j ∈ r.set
  · obtain ⟨i, rfl⟩ := r.exists_idx_of_mem hj
    refine Eq.trans ?_ (Rect.overlay_emb r _ w i).symm
    exact congrFun (View.read_write_univ (v := M.access r) f w) i
  · rw [Rect.overlay_of_not_mem _ _ _ hj]
    exact View.read_slice_write_of_not_mem r f w Finset.univ (fun hm => hj (by
      obtain ⟨i, -, rfl⟩ := Finset.mem_map.mp hm
      exact r.idx_mem i))

/-! ## The triples -/

variable {arg0 arg1 arg2 arg3 : Memref sig .tc .vmem S16x128 .f32} {arg4 arg5 arg6 arg7 : Memref sig .tc .vmem S2048x1 .f32}
  {arg8 : Memref sig .tc .vmem S16x128 .f32} {arg9 : Memref sig .tc .vmem S128x128 .f32}

/-- Reading row `b` of a sixteen-row array. -/
theorem loadRow_owns {M : Memref sig .tc .vmem S16x128 .f32} {X : Vec F S16x128 .f32} {o : Fin 2 → Nat} {b : Nat} (ho : o = ![b, 0]) (hb : b < 16)
    {hin : ∀ a, o a + S1x128.size a ≤ S16x128.size a} {α : Type} {k : Vec F S1x128 .f32 → Prog (TpuEff nD τ sig (Elt F) Λ₀ .tc) α} {Q : α → sProp 𝕄} :
    owns (c : Thread nD τ) M fullShare X
      ⊢ iprop((owns (c : Thread nD τ) M fullShare X -∗ wp frame (wpE (defs₀ (F := F)) Variants.none c none) E (k (rowAt X b)) Q)
        -∗ wp frame (wpE (defs₀ (F := F)) Variants.none c none) E (loadRow M o hin >>= k) Q) := by
  subst ho
  rw [← ld_row X hb]
  exact load_owns c E

/-- Reading block `b` of a column. -/
theorem loadCol_owns {M : Memref sig .tc .vmem S2048x1 .f32} {X : Vec F S2048x1 .f32} {o : Fin 2 → Nat} {b : Nat} (ho : o = ![128 * b, 0]) (hb : b < 16)
    {hin : ∀ a, o a + S128x1.size a ≤ S2048x1.size a} {α : Type} {k : Vec F S128x1 .f32 → Prog (TpuEff nD τ sig (Elt F) Λ₀ .tc) α} {Q : α → sProp 𝕄} :
    owns (c : Thread nD τ) M fullShare X
      ⊢ iprop((owns (c : Thread nD τ) M fullShare X -∗ wp frame (wpE (defs₀ (F := F)) Variants.none c none) E (k (colAt X b)) Q)
        -∗ wp frame (wpE (defs₀ (F := F)) Variants.none c none) E (loadCol M o hin >>= k) Q) := by
  subst ho
  rw [← ld_col X hb]
  exact load_owns c E

/-- The columns and the suppression array, held. -/
abbrev colsHeld (arg4 arg5 arg6 arg7 : Memref sig .tc .vmem S2048x1 .f32) (arg8 : Memref sig .tc .vmem S16x128 .f32) (S : Vec F S16x128 .f32) : sProp 𝕄 :=
  iprop(owns (c : Thread nD τ) arg4 fullShare B.c0 ∗ owns (c : Thread nD τ) arg5 fullShare B.c1 ∗ owns (c : Thread nD τ) arg6 fullShare B.c2
    ∗ owns (c : Thread nD τ) arg7 fullShare B.c3 ∗ owns (c : Thread nD τ) arg8 fullShare S)

/-- One earlier block adds its step to the sum. -/
theorem crossTrip_wp {b a : Nat} (ha : a < 16) {S : Vec F S16x128 .f32} {acc : Row F} {oc : Fin 2 → Nat} (hoc : oc = ![128 * a, 0])
    {hoci : ∀ d, oc d + S128x1.size d ≤ S2048x1.size d} {or : Fin 2 → Nat} (hor : or = ![a, 0]) {hori : ∀ d, or d + S1x128.size d ≤ S16x128.size d}
    {Q : Row F → sProp 𝕄} :
    colsHeld B c arg4 arg5 arg6 arg7 arg8 S
      ⊢ iprop((colsHeld B c arg4 arg5 arg6 arg7 arg8 S -∗ Q (crossStep (rowUse S a) (blockHits B a b) acc))
        -∗ wp frame (wpE (defs₀ (F := F)) Variants.none c none) E
          (crossTrip arg4 arg5 arg6 arg7 arg8 (rowUse B.r0 b) (rowUse B.r1 b) (rowUse B.r2 b) (rowUse B.r3 b)
            (area (rowUse B.r0 b) (rowUse B.r1 b) (rowUse B.r2 b) (rowUse B.r3 b)) oc hoci or hori acc) Q) := by
  unfold crossTrip blockHits
  iintro ⟨H4, H5, H6, H7, H8⟩ HQ
  iapply (loadCol_owns c E hoc ha) $$ H4; iintro H4
  iapply (loadCol_owns c E hoc ha) $$ H5; iintro H5
  iapply (loadCol_owns c E hoc ha) $$ H6; iintro H6
  iapply (loadCol_owns c E hoc ha) $$ H7; iintro H7
  iapply (loadRow_owns c E hor ha) $$ H8; iintro H8
  iapply (value_wp c E)
  iapply HQ
  isplitl [H4]; · iexact H4
  isplitl [H5]; · iexact H5
  isplitl [H6]; · iexact H6
  isplitl [H7]; · iexact H7
  iexact H8

/-- One trip of the loop over the earlier blocks. -/
theorem crossStep_wp {b a : Nat} (ha : a < 16) {S : Vec F S16x128 .f32} {acc : Row F} :
    iprop(⌜acc = crossIter B b S a⌝ ∗ colsHeld B c arg4 arg5 arg6 arg7 arg8 S)
      ⊢ wp frame (wpE (defs₀ (F := F)) Variants.none c none) E
          (crossTrip arg4 arg5 arg6 arg7 arg8 (rowUse B.r0 b) (rowUse B.r1 b) (rowUse B.r2 b) (rowUse B.r3 b)
            (area (rowUse B.r0 b) (rowUse B.r1 b) (rowUse B.r2 b) (rowUse B.r3 b)) (crossColOff (Scf.iv 0#32 1#32 a)) (crossColOff_in ha)
            (crossRowOff (Scf.iv 0#32 1#32 a)) (crossRowOff_in ha) acc)
          (fun acc => iprop(⌜acc = crossIter B b S (a + 1)⌝ ∗ colsHeld B c arg4 arg5 arg6 arg7 arg8 S)) := by
  iintro ⟨%hacc, H⟩
  iapply (crossTrip_wp B c E (a := a) (b := b) ha (crossColOff_eq ha) (crossRowOff_eq ha)) $$ H
  iintro H
  isplitr
  · ipureintro; rw [hacc]; rfl
  · iexact H

/-- What the earlier blocks suppress in block `b` is found. -/
theorem crossPart_wp {b : Nat} (hb : b < 16) {S : Vec F S16x128 .f32} {Q : Row F → sProp 𝕄} :
    colsHeld B c arg4 arg5 arg6 arg7 arg8 S
      ⊢ iprop((colsHeld B c arg4 arg5 arg6 arg7 arg8 S -∗ Q (crossResult B b S))
        -∗ wp frame (wpE (defs₀ (F := F)) Variants.none c none) E
          (crossPart arg4 arg5 arg6 arg7 arg8 b hb (rowUse B.r0 b) (rowUse B.r1 b) (rowUse B.r2 b) (rowUse B.r3 b)
            (area (rowUse B.r0 b) (rowUse B.r1 b) (rowUse B.r2 b) (rowUse B.r3 b))) Q) := by
  match b, hb with
  | 0, hb =>
    unfold crossPart
    rw [show crossResult B 0 S = rowOf 0x00000000#32 from rfl]
    iintro H HQ
    iapply (value_wp c E)
    iapply HQ; iexact H
  | 1, hb =>
    unfold crossPart
    rw [wp_bind, show crossResult B 1 S = positive (crossStep (rowUse S 0) (blockHits B 0 1) (rowOf 0x00000000#32)) from rfl]
    iintro H HQ
    iapply (crossTrip_wp B c E (a := 0) (b := 1) (by decide) (by decide) rfl) $$ H
    iintro H
    iapply (value_wp c E)
    iapply HQ; iexact H
  | b + 2, hb =>
    unfold crossPart
    rw [show crossResult B (b + 2) S = positive (crossIter B (b + 2) S (b + 2)) from rfl]
    have hstep := fun (k : Fin (crossLoop (b + 2)).trips) (acc : Row F) =>
      crossStep_wp (arg4 := arg4) (arg5 := arg5) (arg6 := arg6) (arg7 := arg7) (arg8 := arg8) B c E (b := b + 2) (S := S) (acc := acc)
        ((k.isLt.trans_eq (crossLoop_trips hb)).trans hb)
    iintro H HQ
    iapply (Scf.wp_for_bind frame (wpE (defs₀ (F := F)) Variants.none c none) E _ _ _ (crossLoop_ok hb) (rowOf 0x00000000#32) _
      (fun k acc => iprop(⌜acc = crossIter B (b + 2) S k⌝ ∗ colsHeld B c arg4 arg5 arg6 arg7 arg8 S)) hstep) $$ [H]
    · isplitr
      · ipureintro; rfl
      · iexact H
    · iintro %acc ⟨%hacc, H⟩
      iapply (value_wp c E)
      rw [hacc, show Scf.trips _ _ _ = b + 2 from crossLoop_trips hb]
      iapply HQ; iexact H

/-- One trip of the loop within a block. -/
theorem withinTrip_wp {H : Mat F} {s acc : Row F} (k : Fin withinLoop.trips) :
    (iprop(⌜acc = withinIter H s k.val⌝ ∗ owns (c : Thread nD τ) arg9 fullShare H) : sProp 𝕄)
      ⊢ wp frame (wpE (defs₀ (F := F)) Variants.none c none) E (withinTrip arg9 k acc)
          (fun acc => iprop(⌜acc = withinIter H s (k.val + 1)⌝ ∗ owns (c : Thread nD τ) arg9 fullShare H)) := by
  have hk : k.val < 128 := lt_of_lt_of_eq k.isLt withinLoop_trips
  unfold withinTrip
  iintro ⟨%hacc, H⟩
  iapply (load_owns c E) $$ H
  iintro H
  iapply (value_wp c E)
  isplitr
  · ipureintro
    rw [hacc]
    show _ = withinStep (Scf.iv 0#32 1#32 k.val) (squareRow H k.val) (withinIter H s k.val)
    rw [← ld_square H hk]
    congr 1
    funext j
    refine congrArg H (funext fun a => Fin.ext ?_)
    exact congrArg (· + 1 * (j a).val) (congrFun (withinOff_eq k) a)
  · iexact H

/-- The resolution within a block, over the overlap square `H`. -/
theorem within_wp {H : Mat F} {s : Row F} {Q : Row F → sProp 𝕄} :
    owns (c : Thread nD τ) arg9 fullShare H
      ⊢ iprop((owns (c : Thread nD τ) arg9 fullShare H -∗ Q (withinIter H s 128))
        -∗ wp frame (wpE (defs₀ (F := F)) Variants.none c none) E (Scf.Loop.for withinLoop withinLoop_ok s (withinTrip arg9)) Q) := by
  iintro H HQ
  iapply (Scf.wp_for frame (wpE (defs₀ (F := F)) Variants.none c none) E _ _ _ withinLoop_ok s (withinTrip arg9)
    (fun k acc => iprop(⌜acc = withinIter H s k⌝ ∗ owns (c : Thread nD τ) arg9 fullShare H)) (fun k acc => withinTrip_wp c E k))
  isplitl [H]
  · isplitr
    · ipureintro; rfl
    · iexact H
  · iintro %acc ⟨%hacc, H⟩
    rw [hacc, show Scf.trips _ _ _ = 128 from withinLoop_trips]
    iapply HQ; iexact H

/-- All that the kernel body holds: the boxes, the suppression array, and the overlap square's buffer. -/
abbrev held (arg0 arg1 arg2 arg3 : Memref sig .tc .vmem S16x128 .f32) (arg4 arg5 arg6 arg7 : Memref sig .tc .vmem S2048x1 .f32)
    (arg8 : Memref sig .tc .vmem S16x128 .f32) (arg9 : Memref sig .tc .vmem S128x128 .f32) (S : Vec F S16x128 .f32) : sProp 𝕄 :=
  iprop(owns (c : Thread nD τ) arg0 fullShare B.r0 ∗ owns (c : Thread nD τ) arg1 fullShare B.r1 ∗ owns (c : Thread nD τ) arg2 fullShare B.r2
    ∗ owns (c : Thread nD τ) arg3 fullShare B.r3 ∗ colsHeld B c arg4 arg5 arg6 arg7 arg8 S
    ∗ ∃ H : Vec F S128x128 .f32, owns (c : Thread nD τ) arg9 fullShare H)

/-- A block writes its suppression row. -/
theorem block_wp {b : Nat} (hb : b < 16) {S : Vec F S16x128 .f32} {Q : PUnit → sProp 𝕄} :
    held B c arg0 arg1 arg2 arg3 arg4 arg5 arg6 arg7 arg8 arg9 S
      ⊢ iprop((held B c arg0 arg1 arg2 arg3 arg4 arg5 arg6 arg7 arg8 arg9 (setRow S b (blockRow B b S)) -∗ Q ⟨⟩)
        -∗ wp frame (wpE (defs₀ (F := F)) Variants.none c none) E (blockProg arg0 arg1 arg2 arg3 arg4 arg5 arg6 arg7 arg8 arg9 b hb) Q) := by
  unfold blockProg
  iintro ⟨H0, H1, H2, H3, ⟨H4, H5, H6, H7, H8⟩, ⟨%H, H9⟩⟩ HQ
  iapply (loadRow_owns c E rfl hb) $$ H0; iintro H0
  iapply (loadRow_owns c E rfl hb) $$ H1; iintro H1
  iapply (loadRow_owns c E rfl hb) $$ H2; iintro H2
  iapply (loadRow_owns c E rfl hb) $$ H3; iintro H3
  iapply (loadCol_owns c E rfl hb) $$ H4; iintro H4
  iapply (loadCol_owns c E rfl hb) $$ H5; iintro H5
  iapply (loadCol_owns c E rfl hb) $$ H6; iintro H6
  iapply (loadCol_owns c E rfl hb) $$ H7; iintro H7
  iapply (load_owns c E) $$ H9; iintro H9
  iapply (store_owns c E) $$ H9; iintro H9
  rw [overlay_square]
  rw [wp_bind]
  iapply (crossPart_wp B c E hb) $$ [H4 H5 H6 H7 H8]
  · isplitl [H4]; · iexact H4
    isplitl [H5]; · iexact H5
    isplitl [H6]; · iexact H6
    isplitl [H7]; · iexact H7
    iexact H8
  iintro Hc
  rw [wp_bind]
  iapply (within_wp c E) $$ H9
  iintro H9
  icases Hc with ⟨H4, H5, H6, H7, H8⟩
  iapply (loadRow_owns c E rfl hb) $$ H8; iintro H8
  rw [← bind_pure (Prog.lift _)]
  iapply (store_owns c E) $$ H8; iintro H8
  iapply (value_wp c E)
  rw [overlay_row S hb]
  iapply HQ
  isplitl [H0]; · iexact H0
  isplitl [H1]; · iexact H1
  isplitl [H2]; · iexact H2
  isplitl [H3]; · iexact H3
  isplitr [H9]
  · isplitl [H4]; · iexact H4
    isplitl [H5]; · iexact H5
    isplitl [H6]; · iexact H6
    isplitl [H7]; · iexact H7
    iexact H8
  iexists _; iexact H9

/-- The suppression array after the blocks from `b` on, `n` of them. -/
def blocksResult : (n b : Nat) → Vec F S16x128 .f32 → Vec F S16x128 .f32
  | 0, _, S => S
  | n + 1, b, S => blocksResult n (b + 1) (setRow S b (blockRow B b S))

/-- The blocks write their suppression rows one after another. -/
theorem blocks_wp {Q : PUnit → sProp 𝕄} : ∀ (n b : Nat) (h : b + n ≤ 16) (S : Vec F S16x128 .f32),
    held B c arg0 arg1 arg2 arg3 arg4 arg5 arg6 arg7 arg8 arg9 S
      ⊢ iprop((held B c arg0 arg1 arg2 arg3 arg4 arg5 arg6 arg7 arg8 arg9 (blocksResult B n b S) -∗ Q ⟨⟩)
        -∗ wp frame (wpE (defs₀ (F := F)) Variants.none c none) E (blocksFrom arg0 arg1 arg2 arg3 arg4 arg5 arg6 arg7 arg8 arg9 n b h) Q)
  | 0, b, h, S => by
    unfold blocksFrom blocksResult
    iintro H HQ
    iapply (value_wp c E)
    iapply HQ; iexact H
  | n + 1, b, h, S => by
    unfold blocksFrom blocksResult
    rw [wp_bind]
    iintro H HQ
    iapply (block_wp B c E _) $$ H
    iintro H
    iapply (blocks_wp n (b + 1) _ _) $$ H
    iexact HQ

end Cert.Nms

end
-- ==== Proof.Nms.Launch.lean ====
/- The launch of the idealized kernel: the kernel leaves its output window at the suppression array its sixteen blocks
   write, whatever the window held before; every execution terminates with that array in place, the arguments unchanged
   and the counters at zero. -/
module

public import proofs.«01_k».proof.Proof.Nms.Body
public import proofs.«01_k».proof.Proof.Nms.Triple
public import proofs.«01_k».proof.Proof.Gen.KernelIdeal.Frame
public import Idealize.ShloMosaic.Lib.Claim

@[expose] public section

noncomputable section

namespace Cert.Nms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen Cert.KernelIdeal.Facts₀ Cert.KernelIdeal.Facts

variable {F : FTy → Type} [FloatOps F]

local notation "𝕄" => MT nD τ sig Unit (Elt F) ℕ (UR sig nD τ) ℕ

/-! ## The rows written do not depend on what the array held before -/

/-- Two arrays with the same rows below `b`. -/
def AgreeBelow (b : Nat) (S S' : Vec F S16x128 .f32) : Prop := ∀ j : S16x128.Idx, (j 0).val < b → S j = S' j

/-- Arrays with the same rows below `b` have the same row `k` below `b`. -/
theorem rowAt_agree {b k : Nat} (hb : b ≤ 16) (hk : k < b) {S S' : Vec F S16x128 .f32} (h : AgreeBelow b S S') : rowAt S k = rowAt S' k := by
  funext i
  refine h _ ?_
  show k % 16 < b
  rw [Nat.mod_eq_of_lt (by omega)]
  exact hk

/-- Suppression by the earlier blocks reads only the rows below `b`, after any number of trips -/
theorem crossIter_agree (B : Boxes F) {b : Nat} (hb : b ≤ 16) {S S' : Vec F S16x128 .f32} (h : AgreeBelow b S S') :
    ∀ k, k ≤ b → crossIter B b S k = crossIter B b S' k
  | 0, _ => rfl
  | k + 1, hk => by
    unfold crossIter rowUse
    rw [crossIter_agree B hb h k (by omega), rowAt_agree hb (by omega) h]

/-- and after all of them; -/
theorem crossResult_agree (B : Boxes F) {b : Nat} (hb : b ≤ 16) {S S' : Vec F S16x128 .f32} (h : AgreeBelow b S S') :
    crossResult B b S = crossResult B b S' := by
  cases b with
  | zero => rfl
  | succ b => exact congrArg positive (crossIter_agree B hb h _ le_rfl)

/-- so the row that block `b` writes depends only on the rows below it, -/
theorem blockRow_agree (B : Boxes F) {b : Nat} (hb : b ≤ 16) {S S' : Vec F S16x128 .f32} (h : AgreeBelow b S S') :
    blockRow B b S = blockRow B b S' := by
  unfold blockRow; rw [crossResult_agree B hb h]

/-- and what `n` blocks leave has the same rows for both arrays. -/
theorem blocksResult_agree (B : Boxes F) : ∀ (n b : Nat), b + n ≤ 16 → ∀ {S S' : Vec F S16x128 .f32}, AgreeBelow b S S' →
    AgreeBelow (b + n) (blocksResult B n b S) (blocksResult B n b S')
  | 0, b, _, S, S', h => h
  | n + 1, b, hb, S, S', h => by
    unfold blocksResult
    rw [show b + (n + 1) = (b + 1) + n by omega]
    refine blocksResult_agree B n (b + 1) (by omega) ?_
    rw [blockRow_agree B (by omega) h]
    intro j hj
    unfold setRow
    split_ifs with hjb
    · rfl
    · exact h j (by omega)

/-- The suppression array the kernel leaves: its blocks' rows, from an array of zeros. -/
def finalRows (B : Boxes F) : Vec F S16x128 .f32 := blocksResult B 16 0 fun _ => Scalar.ofBits .f32 0x00000000#32

/-- It is what the sixteen blocks leave from any array. -/
theorem blocksResult_eq_final (B : Boxes F) (S : Vec F S16x128 .f32) : blocksResult B 16 0 S = finalRows B :=
  funext fun j => blocksResult_agree B 16 0 (by omega) (fun _ h => absurd h (Nat.not_lt_zero _)) j (j 0).isLt

/-! ## The proof data -/

variable (m : (ℓ : Loc nD τ sig) → Buf (Elt F) ℓ) (ρ : Dev nD → PrngReg)

/-- The boxes as the kernel finds them. -/
def boxes (c : Dev nD) (t : Fin cfg0.N) : Boxes F where
  r0 := iblk m c 0 t
  r1 := iblk m c 1 t
  r2 := iblk m c 2 t
  r3 := iblk m c 3 t
  c0 := iblk m c 4 t
  c1 := iblk m c 5 t
  c2 := iblk m c 6 t
  c3 := iblk m c 7 t

/-- Window 0 holds coordinate 0 in the row layout. -/
theorem boxes_r0 (c : Dev nD) (t : Fin cfg0.N) : iblk m c 0 t = (boxes m c t).r0 := rfl
/-- Window 1 holds coordinate 1 in the row layout. -/
theorem boxes_r1 (c : Dev nD) (t : Fin cfg0.N) : iblk m c 1 t = (boxes m c t).r1 := rfl
/-- Window 2 holds coordinate 2 in the row layout. -/
theorem boxes_r2 (c : Dev nD) (t : Fin cfg0.N) : iblk m c 2 t = (boxes m c t).r2 := rfl
/-- Window 3 holds coordinate 3 in the row layout. -/
theorem boxes_r3 (c : Dev nD) (t : Fin cfg0.N) : iblk m c 3 t = (boxes m c t).r3 := rfl
/-- Window 4 holds coordinate 0 in the column layout. -/
theorem boxes_c0 (c : Dev nD) (t : Fin cfg0.N) : iblk m c 4 t = (boxes m c t).c0 := rfl
/-- Window 5 holds coordinate 1 in the column layout. -/
theorem boxes_c1 (c : Dev nD) (t : Fin cfg0.N) : iblk m c 5 t = (boxes m c t).c1 := rfl
/-- Window 6 holds coordinate 2 in the column layout. -/
theorem boxes_c2 (c : Dev nD) (t : Fin cfg0.N) : iblk m c 6 t = (boxes m c t).c2 := rfl
/-- Window 7 holds coordinate 3 in the column layout. -/
theorem boxes_c3 (c : Dev nD) (t : Fin cfg0.N) : iblk m c 7 t = (boxes m c t).c3 := rfl

/-- Each input's buffer at its block, the output's at the suppression array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => finalRows (boxes m c t)
  Φ _ := Pipeline.ΦA spec0 c
  q _ := fullShare
  owed _ := 0

/-- The data's arrays are those at the launch. -/
theorem A_eq (c : Dev nD) (w : Fin cfg0.W) : (dats m 0 c).A w = V m c (Pipeline.arrRef spec0 w) := by
  dsimp only [dats]

/-- The body leaves input 0's buffer at its block. -/
theorem after0 (c : Dev nD) (t : Fin cfg0.N) : (dats m 0 c).after 0 t = iblk m c 0 t := by dsimp only [dats]
/-- The body leaves input 1's buffer at its block. -/
theorem after1 (c : Dev nD) (t : Fin cfg0.N) : (dats m 0 c).after 1 t = iblk m c 1 t := by dsimp only [dats]
/-- The body leaves input 2's buffer at its block. -/
theorem after2 (c : Dev nD) (t : Fin cfg0.N) : (dats m 0 c).after 2 t = iblk m c 2 t := by dsimp only [dats]
/-- The body leaves input 3's buffer at its block. -/
theorem after3 (c : Dev nD) (t : Fin cfg0.N) : (dats m 0 c).after 3 t = iblk m c 3 t := by dsimp only [dats]
/-- The body leaves input 4's buffer at its block. -/
theorem after4 (c : Dev nD) (t : Fin cfg0.N) : (dats m 0 c).after 4 t = iblk m c 4 t := by dsimp only [dats]
/-- The body leaves input 5's buffer at its block. -/
theorem after5 (c : Dev nD) (t : Fin cfg0.N) : (dats m 0 c).after 5 t = iblk m c 5 t := by dsimp only [dats]
/-- The body leaves input 6's buffer at its block. -/
theorem after6 (c : Dev nD) (t : Fin cfg0.N) : (dats m 0 c).after 6 t = iblk m c 6 t := by dsimp only [dats]
/-- The body leaves input 7's buffer at its block. -/
theorem after7 (c : Dev nD) (t : Fin cfg0.N) : (dats m 0 c).after 7 t = iblk m c 7 t := by dsimp only [dats]
/-- The body leaves the output's buffer at the suppression array. -/
theorem after8 (c : Dev nD) (t : Fin cfg0.N) : (dats m 0 c).after 8 t = finalRows (boxes m c t) := by dsimp only [dats]

/-! ## The body obligation -/

/-- What the body is called with, window by window. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d)))

/-- What the body returns, window by window. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t))

/-- The invariant between points: the overlap square's buffer at some contents, and the generator register. -/
theorem inv_eq (c : Dev nD) : (Pipeline.ΦA spec0 c : sProp 𝕄)
    = iprop(iprop(∃ H : Vec F S128x128 .f32, owns (c : Thread nD τ) (Memref.whole cc0_scratch0) fullShare H) ∗ (∃ r, prngReg c r)) := by
  unfold Pipeline.ΦA; rw [scopedRest0_eq]; simp only [owns_whole]; try rfl

/-- The body takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c), before0_5_of m (dats m 0 c) (A_eq m c 5) (after5 m c),
    before0_6_of m (dats m 0 c) (A_eq m c 6) (after6 m c), before0_7_of m (dats m 0 c) (A_eq m c 7) (after7 m c)]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7, after8, inv_eq, body_eq_blocks, boxes_r0, boxes_r1, boxes_r2, boxes_r3, boxes_c0, boxes_c1, boxes_c2, boxes_c3]
  iintro ⟨⟨H9, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (blocks_wp (boxes m c t) c Set.univ 16 0 _ _) $$ [H0 H1 H2 H3 H4 H5 H6 H7 H8 H9]
  · isplitl [H0]; · iexact H0
    isplitl [H1]; · iexact H1
    isplitl [H2]; · iexact H2
    isplitl [H3]; · iexact H3
    isplitr [H9]
    · isplitl [H4]; · iexact H4
      isplitl [H5]; · iexact H5
      isplitl [H6]; · iexact H6
      isplitl [H7]; · iexact H7
      iexact H8
    iexact H9
  rw [blocksResult_eq_final]
  iintro ⟨H0, H1, H2, H3, ⟨H4, H5, H6, H7, H8⟩, H9⟩
  isplitl [H9 Hg]
  · isplitl [H9]
    · iexact H9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launched body is the kernel's body at the point. -/
theorem body_row (t : Fin cfg0.N) : defs₀ (F := F) .tc cfg0.body (cfg0.bodyArgs t (cfg0.slots t)) = bodyAt0 t := by
  unfold defs₀; rw [Defs.onTc_tc]

/-- The body, from what it is called with, ends with what it returns. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
/-- The run, with the counters at zero. -/
theorem run_quiescent : θ_run defs (onTc (τ := τ) (main (F := F))) (s₀ m ρ) (fun r =>
    Pipeline.FramePost cfgs (dats m) 0 (Pipeline.afterTail₀ cfgs (dats m) 0 (V0 m) [hostOps1, hostOps1_1, hostOps1_2, hostOps1_3, hostOps1_4]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4]) (hsub := sfx_sub) (hfresh := sfx_fresh) (hkeep := sfx_keeps)
    (hmain := hmain m Variants.none) (hA := A_eq m) (hΦ := fun _ _ => rfl)

/-- The run. -/
theorem run : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  (θ_run defs _ _).mono (fun _ h => h.1) (run_quiescent m ρ)

/-- The idealized kernel's frame: the arguments end unchanged and the counters at zero. -/
theorem kernel_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run m ρ)) ((θ_run defs _ _).mono (fun _ h => h.2) (run_quiescent m ρ))

end Cert.Nms

end
-- ==== Proof.Nms.Same.lean ====
/- The kernel as printed and its idealization are one text (no operation is replaced), so a run of one is a run of the
   other, at any reading of the floats. -/
module

public import proofs.«01_k».proof.Proof.Nms.Launch
public import proofs.«01_k».proof.Proof.Gen.Kernel

@[expose] public section

set_option maxRecDepth 20000
set_option maxHeartbeats 4000000

noncomputable section

namespace Cert.Nms

open Idealize.ShloMosaic Idealize.ShloMosaic.TcCoe Idealize.SL.Sem

variable {F : FTy → Type} [FloatOps F]

/-- The kernel bodies are the same program. -/
theorem body_same : @Cert.Kernel.cc0__nms_kernel F _ Cert.Kernel.Gen.facts = @Cert.KernelIdeal.cc0__nms_kernel F _ Cert.KernelIdeal.Gen.facts := rfl

/-- So are the tables of bodies. -/
theorem bodies_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun a => ?_)
  match l, a with
  | ⟨0, _⟩, (t, s) =>
    dsimp only
    rw [body_same]

/-- So are the tables with the pipelines. -/
theorem defs_same : @Cert.Kernel.defs F _ Cert.Kernel.Gen.facts = @Cert.KernelIdeal.defs F _ Cert.KernelIdeal.Gen.facts := by
  unfold Cert.Kernel.defs Cert.KernelIdeal.defs
  rw [bodies_same]
  rfl

/-- So are the main programs. -/
theorem main_same : @Cert.Kernel.main F _ Cert.Kernel.Gen.facts = @Cert.KernelIdeal.main F _ Cert.KernelIdeal.Gen.facts := rfl

/-- The frame of the kernel as printed. -/
theorem printed_quiescent (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same, main_same]
  exact kernel_quiescent m ρ

end Cert.Nms

end
-- ==== Proof.Nms.Ref.lean ====
/-
  The reference program: what its run leaves in the argument arrays, in the buffers computed before the loop, and in the
  loop's carried buffers.
-/
module

public import proofs.«01_k».proof.Proof.Gen.ReferenceIdeal.Run
public import Idealize.ShloMosaic.Lib.Quiescent
public import Idealize.ShloMosaic.Lib.Claim

@[expose] public section

set_option maxRecDepth 8192

noncomputable section

namespace Cert.Nms.Ref

open Idealize.ShloMosaic Idealize.ShloMosaic.TcCoe Idealize.SL.Sem
open Idealize.ShloMosaic.StableHlo
open Cert.ReferenceIdeal Cert.ReferenceIdeal.Gen Cert.ReferenceIdeal.Value

variable {F : FTy → Type} [FloatOps F]
variable (m : (ℓ : Loc nD τ sig) → Buf (Elt F) ℓ) (ρ : Dev nD → PrngReg) (c : Dev nD)

/-! ## Buffers the program never writes again -/

/-- The references the operations after the loop write. -/
abbrev postW : List (Ref sig .tc) :=
  [main_v45, main_cst_3, main_v46, main_v47, main_values_4, main_indices_5,
   main_call3_c, main_call3_v0, main_call3_v1, main_call3_c_0, main_call3_v2, main_call3_v3, main_call3_v4, main_call3_v5,
   main_call3_c_1, main_call3_c_2, main_call3_v6, main_call3_v7, main_call3_v8, main_call3_v9, main_call3_v10,
   main_call3_v11, main_call3_c_3, main_call3_v12, main_call3_v13, main_call3_v14, main_call3_cst, main_call3_v15,
   main_v48, main_v49, main_v50]

/-- The operations after the loop write the references of `postW` and no other. -/
theorem post_keeps (r : Ref sig .tc) (h : r ∉ postW) (V : Valuation τ sig (Elt F)) :
    afterL postI V (Proc.devRef .tc r) = V (Proc.devRef .tc r) := by
  rw [afterL_eq_after_flatten]
  exact after_of_writes_sub (W := postW) _ V (forall_writes_sub_of_map rfl) h

/-- A trip of the loop changes only what the condition and the body write. -/
theorem trips_keep (r : Ref sig .tc) (h : r ∉ while0Ops0_W) (h' : r ∉ condOps_W) :
    ∀ k, atK m k c (Proc.devRef .tc r) = entryContents preI m c (Proc.devRef .tc r)
  | 0 => rfl
  | k + 1 => by
    show after while0Ops0 (after condOps (atK m k c)) (Proc.devRef .tc r) = _
    rw [after_of_writes_sub _ _ while0Ops0_writes h, after_of_writes_sub _ _ condOps_writes h', trips_keep r h h' k]

/-- The operations before the loop change only what they write. -/
theorem entry_keeps (r : Ref sig .tc) (h0 : r ∉ hostOps0_W) (h1 : r ∉ hostOps0_1_W) (h2 : r ∉ hostOps0_2_W)
    (h3 : r ∉ hostOps0_3_W) (h4 : r ∉ hostOps0_4_W) :
    entryContents preI m c (Proc.devRef .tc r) = m ((c.tc : Thread nD τ).loc r) := by
  show after hostOps0_4 (after hostOps0_3 (after hostOps0_2 (after hostOps0_1 (after hostOps0 (launchContents m c))))) _ = _
  rw [after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- The contents at the end: the operations after the loop, run on what the loop leaves. -/
theorem final_eq : finalContents condOps preI bodyI postI 2000 m c = afterL postI (after condOps (atK m 2000 c)) := rfl

/-- A buffer nothing writes ends as it began. -/
theorem final_keeps (r : Ref sig .tc) (h0 : r ∉ hostOps0_W) (h1 : r ∉ hostOps0_1_W) (h2 : r ∉ hostOps0_2_W)
    (h3 : r ∉ hostOps0_3_W) (h4 : r ∉ hostOps0_4_W) (h : r ∉ while0Ops0_W) (h' : r ∉ condOps_W) (h5 : r ∉ postW) :
    finalContents condOps preI bodyI postI 2000 m c (Proc.devRef .tc r) = m ((c.tc : Thread nD τ).loc r) := by
  rw [final_eq, post_keeps r h5, after_of_writes_sub _ _ condOps_writes h', trips_keep m c r h h', entry_keeps m c r h0 h1 h2 h3 h4]

/-- The boxes end as they began, -/
theorem final_arg0 : finalContents condOps preI bodyI postI 2000 m c (Proc.devRef .tc main_arg0) = m ((c.tc : Thread nD τ).loc main_arg0) :=
  final_keeps m c main_arg0 (by decide) (by decide) (by decide) (by decide) (by decide) (by decide) (by decide) (by decide)

/-- and so do the scores. -/
theorem final_arg1 : finalContents condOps preI bodyI postI 2000 m c (Proc.devRef .tc main_arg1) = m ((c.tc : Thread nD τ).loc main_arg1) :=
  final_keeps m c main_arg1 (by decide) (by decide) (by decide) (by decide) (by decide) (by decide) (by decide) (by decide)

/-- The reference's run: the result array at the fold's value, the arguments as they began. -/
theorem run : θ_run (defs (F := F)) (onTc (τ := τ) (main (F := F))) ⟨m, fun _ => 0, ρ⟩ (fun r => ∀ c : Dev nD,
      r.2.mem ((c.tc : Thread nD τ).loc main_v50) = afterL postI (after condOps (atK m 2000 c)) (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c main_v50 rfl, (h c main_arg0 rfl).trans (final_arg0 m c), (h c main_arg1 rfl).trans (final_arg1 m c)⟩)
    (run_fold m ρ)

/-- The reference's frame: the arguments end unchanged and the counters (it has none) at zero. -/
theorem reference_quiescent : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m ρ)

end Cert.Nms.Ref

end
-- ==== Proof.Nms.Tails.lean ====
/- The operations the two programs share: what comes before the overlaps and what comes after the suppression. -/
module

public import proofs.«01_k».proof.Proof.Gen.KernelIdeal.Frame
public import proofs.«01_k».proof.Proof.Gen.ReferenceIdeal.Run
public import Idealize.ShloMosaic.Lib.StableHlo.RunRead

@[expose] public section

set_option maxRecDepth 8192

noncomputable section

namespace Cert.Nms

open Idealize.ShloMosaic Idealize.ShloMosaic.TcCoe Idealize.SL.Sem
open Idealize.ShloMosaic.StableHlo

variable {F : FTy → Type} [FloatOps F]

/-- The kernel program's operations after the launch. -/
abbrev kernelTail : List (HloOp Cert.KernelIdeal.τ Cert.KernelIdeal.sig (Elt F)) :=
  List.flatten [Cert.KernelIdeal.Gen.hostOps1, Cert.KernelIdeal.Gen.hostOps1_1, Cert.KernelIdeal.Gen.hostOps1_2, Cert.KernelIdeal.Gen.hostOps1_3, Cert.KernelIdeal.Gen.hostOps1_4]

/-- The last operation joins scores and boxes. -/
theorem glue_congr (a a' : FVec F Cert.KernelIdeal.S300x1 .f32) (b b' : FVec F Cert.KernelIdeal.S300x4 .f32) (ha : a = a') (hb : b = b') :
    concatenate Cert.KernelIdeal.S300x5 1 [⟨Cert.KernelIdeal.S300x1, a⟩, ⟨Cert.KernelIdeal.S300x4, b⟩] Cert.KernelIdeal.Facts₀.concatenates_S300x1_S300x4_S300x5_d1
      = concatenate Cert.KernelIdeal.S300x5 1 [⟨Cert.KernelIdeal.S300x1, a'⟩, ⟨Cert.KernelIdeal.S300x4, b'⟩] Cert.KernelIdeal.Facts₀.concatenates_S300x1_S300x4_S300x5_d1 := by
  rw [ha, hb]

/-- From equal boxes, scores and keep marks the two programs end with equal results. -/
theorem tails_agree (V : Valuation Cert.KernelIdeal.τ Cert.KernelIdeal.sig (Elt F)) (V' : Valuation Cert.ReferenceIdeal.τ Cert.ReferenceIdeal.sig (Elt F))
    (hb : V (Proc.devRef .tc Cert.KernelIdeal.main_v0) = V' (Proc.devRef .tc Cert.ReferenceIdeal.main_v0))
    (hv : V (Proc.devRef .tc Cert.KernelIdeal.main_values) = V' (Proc.devRef .tc Cert.ReferenceIdeal.main_values))
    (hk : (cmpf .olt
        (extractStridedSlice Cert.KernelIdeal.S2000 ![0] (shapeCast Cert.KernelIdeal.S2048 (V (Proc.devRef .tc Cert.KernelIdeal.main_v18)) Cert.KernelIdeal.Facts₀.shapeCasts_S16x128_S2048) Cert.KernelIdeal.Facts₀.slices_S2048_S2000_0)
        (broadcastInDim Cert.KernelIdeal.S2000 ![] Cert.KernelIdeal.Facts₀.bcast_S_S2000 (constant Cert.KernelIdeal.S_ .f32 0x3F000000#32)) : IVec Cert.KernelIdeal.S2000 1)
      = noti (V' (Proc.devRef .tc Cert.ReferenceIdeal.main_v44_4))) :
    after kernelTail V (Proc.devRef .tc Cert.KernelIdeal.main_v27) = afterL Cert.ReferenceIdeal.Value.postI V' (Proc.devRef .tc Cert.ReferenceIdeal.main_v50) := by
  rw [afterL_eq_after_flatten]
  have hk' : (cmpf .olt
        (extractStridedSlice Cert.KernelIdeal.S2000 ![0] (fun i => shapeCast Cert.KernelIdeal.main_v19.ty.shape (V (Proc.devRef .tc Cert.KernelIdeal.main_v18)) Cert.KernelIdeal.Gen.shapeCasts_S16x128_S2048 i) Cert.KernelIdeal.Gen.slices_S2048_S2000_0)
        (broadcastInDim Cert.KernelIdeal.S2000 ![] Cert.KernelIdeal.Gen.bcast_S_S2000 (constant Cert.KernelIdeal.S_ .f32 0x3F000000#32)) : IVec Cert.KernelIdeal.S2000 1)
      = noti (V' (Proc.devRef .tc Cert.ReferenceIdeal.main_v44_4)) := hk
  after_reads_simp
  refine glue_congr _ _ _ _ ?_ ?_
  · after_reads_simp
    simp -implicitDefEqProofs only [TRef.toBuf, TRef.ofBuf, cast_cast, cast_eq]
    rw [hk', hv]
  · after_reads_simp
    simp -implicitDefEqProofs only [TRef.toBuf, TRef.ofBuf, cast_cast, cast_eq]
    rw [hk', hv, hb]
    rfl

end Cert.Nms

end
-- ==== Proof.Nms.Heads.lean ====
/- The boxes and scores both programs begin with, and the corner arrays the kernel is launched on. -/
module

public import proofs.«01_k».proof.Proof.Nms.Tails
public import Idealize.ShloMosaic.Lib.Pointwise

@[expose] public section

set_option maxRecDepth 8192

noncomputable section

namespace Cert.Nms

open Idealize.ShloMosaic Idealize.ShloMosaic.TcCoe Idealize.SL.Sem
open Idealize.ShloMosaic.StableHlo

variable {F : FTy → Type} [FloatOps F]

/-- The kernel program's operations before the launch. -/
abbrev kernelHead : List (HloOp Cert.KernelIdeal.τ Cert.KernelIdeal.sig (Elt F)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4]

/-- From equal arguments the two programs select the same scores. -/
theorem values_agree (V : Valuation Cert.KernelIdeal.τ Cert.KernelIdeal.sig (Elt F)) (V' : Valuation Cert.ReferenceIdeal.τ Cert.ReferenceIdeal.sig (Elt F))
    (h1 : V (Proc.devRef .tc Cert.KernelIdeal.main_arg1) = V' (Proc.devRef .tc Cert.ReferenceIdeal.main_arg1)) :
    after kernelHead V (Proc.devRef .tc Cert.KernelIdeal.main_values) = afterL Cert.ReferenceIdeal.Value.preI V' (Proc.devRef .tc Cert.ReferenceIdeal.main_values) := by
  rw [afterL_eq_after_flatten]
  after_reads_simp
  rw [h1]
  try rfl

/-- And the same boxes. -/
theorem boxes_agree (V : Valuation Cert.KernelIdeal.τ Cert.KernelIdeal.sig (Elt F)) (V' : Valuation Cert.ReferenceIdeal.τ Cert.ReferenceIdeal.sig (Elt F))
    (h0 : V (Proc.devRef .tc Cert.KernelIdeal.main_arg0) = V' (Proc.devRef .tc Cert.ReferenceIdeal.main_arg0))
    (h1 : V (Proc.devRef .tc Cert.KernelIdeal.main_arg1) = V' (Proc.devRef .tc Cert.ReferenceIdeal.main_arg1)) :
    after kernelHead V (Proc.devRef .tc Cert.KernelIdeal.main_v0) = afterL Cert.ReferenceIdeal.Value.preI V' (Proc.devRef .tc Cert.ReferenceIdeal.main_v0) := by
  rw [afterL_eq_after_flatten]
  after_reads_simp
  simp -implicitDefEqProofs only [TRef.toBuf, TRef.ofBuf, cast_cast, cast_eq]
  rw [h0, h1]
  try rfl

section Corners
open Cert.KernelIdeal Cert.KernelIdeal.Gen

/-- The boxes with the padding after them. -/
def padded (X : FVec F S2000x4 .f32) : FVec F S2048x4 .f32 :=
  pad S2048x4 ![0, 0] ![48, 0] ![0, 0] X (sitofp .f32 (constantI S_ 32 0#32)) pads_S2000x4_S2048x4_0480_000 h_S_

/-- One corner coordinate of every box. -/
def corner (X : FVec F S2000x4 .f32) (k : ℕ) (h : S2048x4.Slices ![0, k] S2048x1) : FVec F S2048 .f32 :=
  shapeCast S2048 (extractStridedSlice S2048x1 ![0, k] (padded X) h) shapeCasts_S2048x1_S2048

variable (V : Valuation τ sig (Elt F))

/-- The selected boxes. -/
abbrev sel : FVec F S2000x4 .f32 := after kernelHead V (Proc.devRef .tc main_v0)

/-- The eight arrays the kernel is launched on: each coordinate in the row layout and in the column layout. -/
theorem corners_eq :
    after kernelHead V (Proc.devRef .tc main_v10) = shapeCast S16x128 (corner (sel V) 0 slices_S2048x4_S2048x1_0_0) shapeCasts_S2048_S16x128
    ∧ after kernelHead V (Proc.devRef .tc main_v11) = shapeCast S16x128 (corner (sel V) 1 slices_S2048x4_S2048x1_0_1) shapeCasts_S2048_S16x128
    ∧ after kernelHead V (Proc.devRef .tc main_v12) = shapeCast S16x128 (corner (sel V) 2 slices_S2048x4_S2048x1_0_2) shapeCasts_S2048_S16x128
    ∧ after kernelHead V (Proc.devRef .tc main_v13) = shapeCast S16x128 (corner (sel V) 3 slices_S2048x4_S2048x1_0_3) shapeCasts_S2048_S16x128
    ∧ after kernelHead V (Proc.devRef .tc main_v14) = shapeCast S2048x1 (corner (sel V) 0 slices_S2048x4_S2048x1_0_0) shapeCasts_S2048_S2048x1
    ∧ after kernelHead V (Proc.devRef .tc main_v15) = shapeCast S2048x1 (corner (sel V) 1 slices_S2048x4_S2048x1_0_1) shapeCasts_S2048_S2048x1
    ∧ after kernelHead V (Proc.devRef .tc main_v16) = shapeCast S2048x1 (corner (sel V) 2 slices_S2048x4_S2048x1_0_2) shapeCasts_S2048_S2048x1
    ∧ after kernelHead V (Proc.devRef .tc main_v17) = shapeCast S2048x1 (corner (sel V) 3 slices_S2048x4_S2048x1_0_3) shapeCasts_S2048_S2048x1 := by
  unfold corner padded
  refine ⟨?_, ?_, ?_, ?_, ?_, ?_, ?_, ?_⟩ <;> (after_reads_simp; rfl)

/-- A box's coordinate in the row layout. -/
theorem row_at (X : FVec F S2000x4 .f32) (k : ℕ) (h : S2048x4.Slices ![0, k] S2048x1) (hk : k < 4) (b : Fin 16) (q : Fin 128) (hj : 128 * b.val + q.val < 2000) :
    shapeCast S16x128 (corner X k h) shapeCasts_S2048_S16x128 (ix2 b q) = X (ix2 ⟨128 * b.val + q.val, hj⟩ ⟨k, hk⟩) := by
  unfold corner padded
  pointwise
  rw [dif_pos ⟨by omega, hk⟩]
  simp only [Nat.mul_comm]
/-- A box's coordinate in the column layout. -/
theorem col_at (X : FVec F S2000x4 .f32) (k : ℕ) (h : S2048x4.Slices ![0, k] S2048x1) (hk : k < 4) (i : Fin 2048) (hi : i.val < 2000) :
    shapeCast S2048x1 (corner X k h) shapeCasts_S2048_S2048x1 (ix2 i 0) = X (ix2 ⟨i.val, hi⟩ ⟨k, hk⟩) := by
  unfold corner padded
  pointwise
  rw [dif_pos ⟨hi, hk⟩]

end Corners

end Cert.Nms

end
-- ==== Proof.Nms.Math.lean ====
/- The kernel's block programs at the extended reals: what a row of the result says of the boxes. -/
module

public import proofs.«01_k».proof.Proof.Nms.Triple
public import Idealize.ShloMosaic.Lib.Pointwise
public import Idealize.ShloMosaic.Lib.MatmulPlain
public import Idealize.ShloMosaic.PureOps.Ideal.Laws

@[expose] public section

noncomputable section

namespace Cert.Nms

open Idealize.ShloMosaic Idealize.ShloMosaic.TcCoe
open Cert.KernelIdeal Cert.KernelIdeal.Facts₀ Cert.KernelIdeal.Facts
open scoped Classical

/-! ## Greedy suppression -/

/-- Box `j` is suppressed: some earlier box that is not suppressed itself overlaps it (`M`). -/
def Sup (M : ℕ → ℕ → Prop) (j : ℕ) : Prop := ∃ i : Fin j, M i.val j ∧ ¬ Sup M i.val
termination_by j
decreasing_by exact i.isLt

/-- Box `j` is suppressed by one of the first `n` boxes. -/
def Upto (M : ℕ → ℕ → Prop) (n j : ℕ) : Prop := ∃ i, i < n ∧ i < j ∧ M i j ∧ ¬ Sup M i

/-- Once every earlier box is counted, the count is the suppression. -/
theorem upto_sup {M : ℕ → ℕ → Prop} {n j : ℕ} (h : j ≤ n) : Upto M n j ↔ Sup M j := by
  rw [Sup]
  exact ⟨fun ⟨i, _, hj, hm, hs⟩ => ⟨⟨i, hj⟩, hm, hs⟩, fun ⟨i, hm, hs⟩ => ⟨i.val, by omega, i.isLt, hm, hs⟩⟩

/-- No box is suppressed by none. -/
theorem upto_zero {M : ℕ → ℕ → Prop} {j : ℕ} : ¬ Upto M 0 j := fun ⟨_, h, _⟩ => absurd h (Nat.not_lt_zero _)

/-- One more box counts if it comes earlier, overlaps, and is not suppressed. -/
theorem upto_succ {M : ℕ → ℕ → Prop} {n j : ℕ} : Upto M (n + 1) j ↔ Upto M n j ∨ (n < j ∧ M n j ∧ ¬ Sup M n) := by
  constructor
  · rintro ⟨i, hi, hj, hm, hs⟩
    rcases Nat.lt_succ_iff_lt_or_eq.mp hi with h | h
    · exact .inl ⟨i, h, hj, hm, hs⟩
    · subst h; exact .inr ⟨hj, hm, hs⟩
  · rintro (⟨i, hi, hj, hm, hs⟩ | ⟨hj, hm, hs⟩)
    · exact ⟨i, by omega, hj, hm, hs⟩
    · exact ⟨n, by omega, hj, hm, hs⟩

/-- Suppression among the first `n` boxes depends on the overlaps among them only. -/
theorem sup_congr {M M' : ℕ → ℕ → Prop} {n : ℕ} (h : ∀ i j, i < n → j < n → (M i j ↔ M' i j)) : ∀ j, j < n → (Sup M j ↔ Sup M' j) := by
  intro j
  induction j using Nat.strong_induction_on with
  | _ j ih =>
    intro hj
    rw [Sup, Sup]
    refine exists_congr fun i => ?_
    rw [h i j (i.isLt.trans hj) hj, ih i i.isLt (i.isLt.trans hj)]

/-! ## The overlap of two boxes -/

/-- The overlap area of two boxes. -/
def interOf (a0 a1 a2 a3 b0 b1 b2 b3 : EReal) : EReal := max (min a2 b2 - max a0 b0) 0 * max (min a3 b3 - max a1 b1) 0

/-- The overlap area over the area of the union. -/
def ratio (a0 a1 a2 a3 b0 b1 b2 b3 : EReal) : EReal :=
  Ideal.div (interOf a0 a1 a2 a3 b0 b1 b2 b3)
    (max (((a2 - a0) * (a3 - a1) + (b2 - b0) * (b3 - b1)) - interOf a0 a1 a2 a3 b0 b1 b2 b3) (Ideal.ofBits .f32 0x3089705F#32))

/-- The boxes overlap by more than the threshold. -/
def Over (a0 a1 a2 a3 b0 b1 b2 b3 : EReal) : Prop := Ideal.ofBits .f32 0x3F000000#32 < ratio a0 a1 a2 a3 b0 b1 b2 b3

/-- The word of 1 is 1. -/
theorem one_bits : Ideal.ofBits .f32 0x3F800000#32 = 1 := by
  simp [Ideal.ofBits, Ideal.ieee, ← EReal.coe_mul]
  norm_num
/-- The word of 0.5 is one half, -/
theorem half_bits : Ideal.ofBits .f32 0x3F000000#32 = ((1 / 2 : ℝ) : EReal) := by
  simp [Ideal.ofBits, Ideal.ieee, ← EReal.coe_mul]
  norm_num
/-- which is positive -/
theorem half_pos : (0 : EReal) < Ideal.ofBits .f32 0x3F000000#32 := by
  rw [half_bits]; exact_mod_cast (by norm_num : (0 : ℝ) < 1 / 2)
/-- and below 1. -/
theorem half_lt_one : Ideal.ofBits .f32 0x3F000000#32 < (1 : EReal) := by
  rw [half_bits]; exact_mod_cast (by norm_num : (1 / 2 : ℝ) < 1)

/-- One where the statement holds, zero elsewhere. -/
def ind (P : Prop) : EReal := if P then 1 else 0

/-- An indicator is not negative. -/
theorem ind_nonneg (P : Prop) : 0 ≤ ind P := by unfold ind; split_ifs <;> simp
/-- Equivalent statements have the same indicator. -/
theorem ind_congr {P Q : Prop} (h : P ↔ Q) : ind P = ind Q := by rw [propext h]
/-- Below the threshold exactly where the statement fails. -/
theorem ind_lt_half (P : Prop) : ind P < Ideal.ofBits .f32 0x3F000000#32 ↔ ¬ P := by
  unfold ind
  split_ifs with h
  · simp [h, half_lt_one.le]
  · simp [h, half_pos]
/-- An indicator is positive where its statement holds. -/
theorem ind_pos (P : Prop) : 0 < ind P ↔ P := by unfold ind; split_ifs with h <;> simp [h]

/-- The squares of hits read at an entry. -/
theorem hits_at (r0 r1 r2 r3 : Row Ideal) (c0 c1 c2 c3 : Col Ideal) (p q : Fin 128) :
    hits r0 r1 r2 r3 (area r0 r1 r2 r3) c0 c1 c2 c3 (ix2 p q)
      = ind (Over (c0 (ix2 p 0)) (c1 (ix2 p 0)) (c2 (ix2 p 0)) (c3 (ix2 p 0)) (r0 (ix2 0 q)) (r1 (ix2 0 q)) (r2 (ix2 0 q)) (r3 (ix2 0 q))) := by
  unfold hits inter area matOf ind Over ratio interOf
  pointwise
  congr

/-! ## The steps at the extended reals -/

/-- The row is the indicator of a statement of the position. -/
def IsRow (s : Row Ideal) (P : Fin 128 → Prop) : Prop := ∀ q, s (ix2 0 q) = ind (P q)

/-- A row of zeros indicates nothing. -/
theorem isRow_zero : IsRow (rowOf 0x00000000#32) (fun _ => False) := by
  intro q
  unfold rowOf ind
  pointwise

/-- The product of two indicators. -/
theorem ind_mul (P Q : Prop) : ind P * ind Q = ind (P ∧ Q) := by
  unfold ind; by_cases hP : P <;> by_cases hQ : Q <;> simp [hP, hQ]
/-- The greater of two indicators. -/
theorem ind_max (P Q : Prop) : max (ind P) (ind Q) = ind (P ∨ Q) := by
  unfold ind; by_cases hP : P <;> by_cases hQ : Q <;> simp [hP, hQ]
/-- One minus an indicator is the indicator of the negation. -/
theorem one_sub_ind (P : Prop) : 1 - ind P = ind (¬ P) := by
  unfold ind; by_cases hP : P
  · simp only [hP, if_true, not_true, if_false]; exact EReal.sub_self (EReal.coe_ne_top 1) (EReal.coe_ne_bot 1)
  · simp [hP]

/-- Comparing with zero turns nonnegative numbers into the indicator of being positive. -/
theorem positive_at {acc : Row Ideal} {P : Fin 128 → Prop} (h : ∀ q, 0 < acc (ix2 0 q) ↔ P q) : IsRow (positive acc) P := by
  intro q
  unfold positive rowOf
  pointwise
  rw [← ind_congr (h q)]
  unfold ind
  congr

/-- A step over an earlier block adds the number of its kept boxes that hit. -/
theorem crossStep_at {s acc : Row Ideal} {h : Mat Ideal} {P : Fin 128 → Prop} {H : Fin 128 → Fin 128 → Prop}
    (hs : IsRow s P) (hh : ∀ p q, h (ix2 p q) = ind (H p q)) (q : Fin 128) :
    crossStep s h acc (ix2 0 q) = acc (ix2 0 q) + ∑ p, ind (¬ P p ∧ H p q) := by
  unfold crossStep
  show FloatOps.addf (acc (ix2 0 q)) (FloatOps.matmul (DotDims.plain 1 128 128) none (subf (rowOf 0x3F800000#32) s) h (constant S1x128 .f32 0x00000000#32) (ix2 0 q)) = _
  refine congrArg (acc (ix2 0 q) + ·) ((Ideal.matmul_plain_apply none (subf (rowOf 0x3F800000#32) s) h (constant S1x128 .f32 0x00000000#32) 0 q).trans ?_)
  unfold rowOf
  pointwise
  refine Finset.sum_congr rfl fun p _ => ?_
  show (1 - s (ix2 0 p)) * h (ix2 p q) = _
  rw [hs p, hh p q, one_sub_ind, ind_mul]

/-- The position of step `k`. -/
theorem iv_eq (k : ℕ) : Scf.iv 0#32 1#32 k = BitVec.ofNat 32 k := by
  unfold Scf.iv; rw [BitVec.zero_add, BitVec.mul_one]
/-- Positions are compared as numbers. -/
theorem cmpi_sgt {q k : ℕ} (hq : q < 2 ^ 31) (hk : k < 2 ^ 31) :
    IntOp.cmpi .sgt (BitVec.ofNat 32 q) (BitVec.ofNat 32 k) = BitVec.ofBool (decide (k < q)) := by
  unfold IntOp.cmpi
  refine congrArg BitVec.ofBool ?_
  show (BitVec.ofNat 32 k).slt (BitVec.ofNat 32 q) = _
  unfold BitVec.slt
  refine decide_eq_decide.mpr ?_
  rw [BitVec.toInt_eq_toNat_of_lt (by rw [BitVec.toNat_ofNat]; omega), BitVec.toInt_eq_toNat_of_lt (by rw [BitVec.toNat_ofNat]; omega),
    BitVec.toNat_ofNat, BitVec.toNat_ofNat]
  omega
/-- Comparing two small numbers as words for equality is comparing the numbers. -/
theorem cmpi_eq {q k : ℕ} (hq : q < 2 ^ 31) (hk : k < 2 ^ 31) :
    IntOp.cmpi .eq (BitVec.ofNat 32 q) (BitVec.ofNat 32 k) = BitVec.ofBool (decide (q = k)) := by
  unfold IntOp.cmpi
  refine congrArg BitVec.ofBool ?_
  show (BitVec.ofNat 32 q == BitVec.ofNat 32 k) = _
  rw [Bool.eq_iff_iff, beq_iff_eq, decide_eq_true_iff]
  constructor
  · intro h
    have := congrArg BitVec.toNat h
    rw [BitVec.toNat_ofNat, BitVec.toNat_ofNat] at this
    omega
  · rintro rfl; rfl
/-- Selecting by the bit of a statement is choosing by the statement. -/
theorem select_bool {α : Type} (P : Prop) [Decidable P] (a b : α) : Scalar.select (BitVec.ofBool (decide P)) a b = if P then a else b := by
  by_cases h : P <;> simp [h, Scalar.select]

/-- The entry a step within a block looks up: whether box `k` is suppressed. -/
theorem pick {s : Row Ideal} {k : ℕ} (hk : k < 128) :
    extractAt ![0, 0, 0]
      (shapeCast S1x1x1
        (multiReduction .add [1, 2] S1
          (shapeCast S1x1x128
            (mulf s (select (cmpi .eq lanes (broadcast S1x128 (Scf.iv 0#32 1#32 k))) (rowOf 0x3F800000#32) (rowOf 0x00000000#32)))
            shapeCasts_S1x128_S1x1x128)
          0x00000000#32 reduces_S1x1x128_S1 (.inl rfl) rfl)
        shapeCasts_S1_S1x1x1)
      inpos_S1x1x1_p0_0_0 = s (ix2 0 ⟨k, hk⟩) := by
  rw [extractAt_eq]
  unfold shapeCast
  refine (Ideal.multiReduction_add_total _ _ _ (fun b => by fin_cases b; rfl) (.inl rfl) rfl _).trans ?_
  rw [Equiv.sum_comp (Shape.reshapeEquiv shapeCasts_S1x128_S1x1x128)]
  rw [Finset.sum_eq_single (ix2 0 ⟨k, hk⟩)]
  · unfold lanes rowOf
    pointwise
    rw [iv_eq, cmpi_eq (by omega) (by omega), select_bool]
    simp
  · intro j _ hj
    obtain ⟨x, y, rfl⟩ : ∃ (x : Fin 1) (y : Fin 128), j = ix2 x y := ⟨j 0, j 1, eq_ix2 j⟩
    have hx : x = 0 := Subsingleton.elim _ _
    have hne : y.val ≠ k := fun h => hj (by rw [hx, show y = ⟨k, hk⟩ from Fin.ext h])
    unfold lanes rowOf
    pointwise
    rw [iv_eq, cmpi_eq (by omega) (by omega), select_bool, if_neg hne]
  · intro h; exact absurd (Finset.mem_univ _) h

/-- A step within a block: box `k`, if kept, suppresses the later boxes its row marks. -/
theorem withinStep_at {row acc : Row Ideal} {k : ℕ} (hk : k < 128) {P R : Fin 128 → Prop} (ha : IsRow acc P) (hr : IsRow row R) :
    IsRow (withinStep (Scf.iv 0#32 1#32 k) row acc) (fun q => P q ∨ (R q ∧ k < q.val) ∧ ¬ P ⟨k, hk⟩) := by
  intro q
  unfold withinStep
  rw [pick hk]
  unfold lanes rowOf
  pointwise
  rw [ha q, hr q, ha ⟨k, hk⟩, iv_eq, cmpi_sgt (by omega) (by omega), select_bool, ← ind_max, ← ind_mul (R q ∧ k < q.val), ← ind_mul (R q)]
  congr 1
  simp only [ind_lt_half]
  unfold ind
  by_cases h1 : k < q.val <;> simp [h1]

/-! ## The blocks -/

/-- Box `i` of the columns overlaps box `j` of the rows. -/
def boxM (B : Boxes Ideal) (i j : ℕ) : Prop :=
  Over (B.c0 (ix2 ⟨i % 2048, Nat.mod_lt _ (by decide)⟩ 0)) (B.c1 (ix2 ⟨i % 2048, Nat.mod_lt _ (by decide)⟩ 0))
    (B.c2 (ix2 ⟨i % 2048, Nat.mod_lt _ (by decide)⟩ 0)) (B.c3 (ix2 ⟨i % 2048, Nat.mod_lt _ (by decide)⟩ 0))
    (B.r0 (ix2 ⟨j / 128 % 16, Nat.mod_lt _ (by decide)⟩ ⟨j % 128, Nat.mod_lt _ (by decide)⟩))
    (B.r1 (ix2 ⟨j / 128 % 16, Nat.mod_lt _ (by decide)⟩ ⟨j % 128, Nat.mod_lt _ (by decide)⟩))
    (B.r2 (ix2 ⟨j / 128 % 16, Nat.mod_lt _ (by decide)⟩ ⟨j % 128, Nat.mod_lt _ (by decide)⟩))
    (B.r3 (ix2 ⟨j / 128 % 16, Nat.mod_lt _ (by decide)⟩ ⟨j % 128, Nat.mod_lt _ (by decide)⟩))

/-- Lane `q` of row `b` is the entry of box `128 b + q`. -/
theorem rowUse_at (X : Vec Ideal S16x128 .f32) (b : ℕ) (q : Fin 128) :
    rowUse X b (ix2 0 q) = X (ix2 ⟨(128 * b + q.val) / 128 % 16, Nat.mod_lt _ (by decide)⟩ ⟨(128 * b + q.val) % 128, Nat.mod_lt _ (by decide)⟩) := by
  have h := q.isLt
  have e1 : (128 * b + q.val) / 128 % 16 = b % 16 := by omega
  have e2 : (128 * b + q.val) % 128 = q.val := by omega
  simp only [e1, e2]
  unfold rowUse
  rw [shapeCast_id]
  rfl
/-- Entry `p` of column block `b` is the entry of box `128 b + p`. -/
theorem colUse_at (X : Vec Ideal S2048x1 .f32) (b : ℕ) (p : Fin 128) :
    colUse X b (ix2 p 0) = X (ix2 ⟨(128 * b + p.val) % 2048, Nat.mod_lt _ (by decide)⟩ 0) := by
  unfold colUse
  rw [shapeCast_id]
  rfl

variable (B : Boxes Ideal)

/-- The overlaps of block `a` with block `b`, entry by entry. -/
theorem blockHits_at (a b : ℕ) (p q : Fin 128) : blockHits B a b (ix2 p q) = ind (boxM B (128 * a + p.val) (128 * b + q.val)) := by
  unfold blockHits boxM
  rw [hits_at]
  simp only [rowUse_at, colUse_at]

/-- Row `a` of the array says which boxes of block `a` are suppressed. -/
def RowDone (S : Vec Ideal S16x128 .f32) (a : ℕ) : Prop := IsRow (rowUse S a) (fun q => Sup (boxM B) (128 * a + q.val))

/-- A sum of indicators is not negative, -/
theorem sum_ind_nonneg (P : Fin 128 → Prop) : 0 ≤ ∑ p, ind (P p) := Finset.sum_nonneg fun p _ => ind_nonneg _
/-- and is positive where one of the statements holds. -/
theorem sum_ind_pos (P : Fin 128 → Prop) : 0 < ∑ p, ind (P p) ↔ ∃ p, P p := by
  rw [lt_iff_le_and_ne, and_iff_right (sum_ind_nonneg P), ne_comm, Ne, Finset.sum_eq_zero_iff_of_nonneg (fun p _ => ind_nonneg _)]
  push Not
  exact ⟨fun ⟨p, _, h⟩ => ⟨p, (ind_pos _).mp (lt_of_le_of_ne (ind_nonneg _) (Ne.symm h))⟩,
    fun ⟨p, h⟩ => ⟨p, Finset.mem_univ _, ne_of_gt ((ind_pos _).mpr h)⟩⟩
/-- A sum of two nonnegative numbers is positive where one of them is. -/
theorem add_pos_iff_or {x y : EReal} (hx : 0 ≤ x) (hy : 0 ≤ y) : 0 < x + y ↔ 0 < x ∨ 0 < y := by
  constructor
  · intro h
    by_contra hn
    push Not at hn
    rw [le_antisymm hn.1 hx, le_antisymm hn.2 hy, add_zero] at h
    exact lt_irrefl _ h
  · rintro (h | h)
    · exact lt_of_lt_of_le h (le_add_of_nonneg_right hy)
    · exact lt_of_lt_of_le h (le_add_of_nonneg_left hx)

/-- Counting one more block of suppressors. -/
theorem upto_block {M : ℕ → ℕ → Prop} {k b : ℕ} (hk : k < b) (q : ℕ) :
    Upto M (128 * (k + 1)) (128 * b + q) ↔ Upto M (128 * k) (128 * b + q) ∨ ∃ p : Fin 128, ¬ Sup M (128 * k + p.val) ∧ M (128 * k + p.val) (128 * b + q) := by
  constructor
  · rintro ⟨i, hi, hj, hm, hs⟩
    by_cases h : i < 128 * k
    · exact .inl ⟨i, h, hj, hm, hs⟩
    · obtain ⟨p, rfl⟩ : ∃ p, i = 128 * k + p := ⟨i - 128 * k, by omega⟩
      exact .inr ⟨⟨p, by omega⟩, hs, hm⟩
  · rintro (⟨i, hi, hj, hm, hs⟩ | ⟨p, hs, hm⟩)
    · exact ⟨i, by omega, hj, hm, hs⟩
    · exact ⟨_, by omega, by omega, hm, hs⟩

/-- After `k` earlier blocks the sum is positive where one of their kept boxes hits. -/
theorem crossIter_at {b : ℕ} {S : Vec Ideal S16x128 .f32} (hS : ∀ a, a < b → RowDone B S a) : ∀ k, k ≤ b → ∀ q : Fin 128,
    0 ≤ crossIter B b S k (ix2 0 q) ∧ (0 < crossIter B b S k (ix2 0 q) ↔ Upto (boxM B) (128 * k) (128 * b + q.val)) := by
  intro k
  induction k with
  | zero =>
    intro _ q
    have h : crossIter B b S 0 (ix2 0 q) = 0 := by
      unfold crossIter rowOf
      pointwise
    rw [h]
    exact ⟨le_refl _, fun h => absurd h (lt_irrefl _), fun h => absurd h upto_zero⟩
  | succ k ih =>
    intro hk q
    obtain ⟨h0, h1⟩ := ih (by omega) q
    have e : crossIter B b S (k + 1) (ix2 0 q) = crossIter B b S k (ix2 0 q)
        + ∑ p : Fin 128, ind (¬ Sup (boxM B) (128 * k + p.val) ∧ boxM B (128 * k + p.val) (128 * b + q.val)) :=
      crossStep_at (hS k (by omega)) (H := fun p q => boxM B (128 * k + p.val) (128 * b + q.val)) (blockHits_at B k b) q
    rw [e]
    refine ⟨add_nonneg h0 (sum_ind_nonneg _), ?_⟩
    rw [add_pos_iff_or h0 (sum_ind_nonneg _), h1, sum_ind_pos, upto_block (by omega)]

/-- What the earlier blocks suppress. -/
theorem crossResult_at : ∀ {b : ℕ} {S : Vec Ideal S16x128 .f32}, (∀ a, a < b → RowDone B S a) →
    IsRow (crossResult B b S) (fun q => Upto (boxM B) (128 * b) (128 * b + q.val))
  | 0, S, _ => fun q => (isRow_zero q).trans (ind_congr ⟨False.elim, fun h => absurd h upto_zero⟩)
  | b + 1, S, h => positive_at fun q => (crossIter_at B h (b + 1) le_rfl q).2

/-- After `k` steps within block `b` the first `128 b + k` boxes have been counted. -/
theorem withinIter_at {b : ℕ} {s : Row Ideal} (hs : IsRow s (fun q => Upto (boxM B) (128 * b) (128 * b + q.val))) : ∀ k, k ≤ 128 →
    IsRow (withinIter (shapeCast S128x128 (blockHits B b b) shapeCasts_S128x128_S128x128) s k) (fun q => Upto (boxM B) (128 * b + k) (128 * b + q.val)) := by
  intro k
  induction k with
  | zero => intro _; exact hs
  | succ k ih =>
    intro hk q
    have hrow : IsRow (squareRow (shapeCast S128x128 (blockHits B b b) shapeCasts_S128x128_S128x128) k) (fun q => boxM B (128 * b + k) (128 * b + q.val)) := by
      intro q
      rw [shapeCast_id]
      have e : k % 128 = k := Nat.mod_eq_of_lt (by omega)
      show blockHits B b b (ix2 ⟨k % 128, _⟩ q) = _
      rw [blockHits_at]
      simp only [e]
    refine (withinStep_at (by omega) (ih (by omega)) hrow q).trans (ind_congr ?_)
    show (Upto (boxM B) (128 * b + k) (128 * b + q.val) ∨ (boxM B (128 * b + k) (128 * b + q.val) ∧ k < q.val) ∧ ¬ Upto (boxM B) (128 * b + k) (128 * b + k))
      ↔ Upto (boxM B) ((128 * b + k) + 1) (128 * b + q.val)
    rw [upto_succ, upto_sup (le_refl (128 * b + k))]
    constructor
    · rintro (h | ⟨⟨h1, h2⟩, h3⟩)
      · exact .inl h
      · exact .inr ⟨by omega, h1, h3⟩
    · rintro (h | ⟨h2, h1, h3⟩)
      · exact .inl h
      · exact .inr ⟨⟨h1, by omega⟩, h3⟩

/-- The row a block writes says which of its boxes are suppressed. -/
theorem blockRow_at {b : ℕ} {S : Vec Ideal S16x128 .f32} (h : ∀ a, a < b → RowDone B S a) :
    IsRow (blockRow B b S) (fun q => Sup (boxM B) (128 * b + q.val)) := fun q =>
  (withinIter_at B (crossResult_at B h) 128 le_rfl q).trans (ind_congr (upto_sup (by omega)))

/-- A row just set reads as what it was set to, -/
theorem rowUse_setRow (S : Vec Ideal S16x128 .f32) {b : ℕ} (hb : b < 16) (w : Row Ideal) (q : Fin 128) : rowUse (setRow S b w) b (ix2 0 q) = w (ix2 0 q) := by
  unfold rowUse
  rw [shapeCast_id]
  unfold rowAt setRow
  exact if_pos (Nat.mod_eq_of_lt hb)
/-- and another row as before. -/
theorem rowUse_setRow_ne (S : Vec Ideal S16x128 .f32) {a b : ℕ} (ha : a < 16) (hab : a ≠ b) (w : Row Ideal) (q : Fin 128) :
    rowUse (setRow S b w) a (ix2 0 q) = rowUse S a (ix2 0 q) := by
  unfold rowUse
  rw [shapeCast_id, shapeCast_id]
  unfold rowAt setRow
  exact if_neg (by show ¬ a % 16 = b; omega)

/-- After the blocks from `b` on, every row up to them is done. -/
theorem blocksResult_at : ∀ (n b : ℕ) (S : Vec Ideal S16x128 .f32), b + n ≤ 16 → (∀ a, a < b → RowDone B S a) →
    ∀ a, a < b + n → RowDone B (blocksResult B n b S) a
  | 0, b, S, _, h => h
  | n + 1, b, S, hn, h => by
    intro a ha
    refine blocksResult_at n (b + 1) (setRow S b (blockRow B b S)) (by omega) ?_ a (by omega)
    intro a ha q
    by_cases hab : a = b
    · subst hab
      rw [rowUse_setRow S (by omega)]
      exact blockRow_at B h q
    · rw [rowUse_setRow_ne S (by omega) hab]
      exact h a (by omega) q

/-- The array the blocks write, read at a box. -/
theorem blocks_at (S : Vec Ideal S16x128 .f32) (b : Fin 16) (q : Fin 128) : blocksResult B 16 0 S (ix2 b q) = ind (Sup (boxM B) (128 * b.val + q.val)) := by
  have h := blocksResult_at B 16 0 S (by omega) (fun a ha => absurd ha (Nat.not_lt_zero a)) b.val (by omega) q
  rw [← h]
  unfold rowUse
  rw [shapeCast_id]
  have e : b.val % 16 = b.val := Nat.mod_eq_of_lt b.isLt
  unfold rowAt
  simp only [e]
  rfl

end Cert.Nms

end
-- ==== Proof.Nms.RefValue.lean ====
/- The reference at the extended reals: the matrix of overlaps it computes before its loop, and what its loop computes. -/
module

public import proofs.«01_k».proof.Proof.Nms.Ref
public import proofs.«01_k».proof.Proof.Nms.Math
public import Idealize.ShloMosaic.Lib.StableHlo.ReadAt

@[expose] public section

set_option maxRecDepth 8192

noncomputable section

namespace Cert.Nms.Ref

open Idealize.ShloMosaic Idealize.ShloMosaic.TcCoe Idealize.SL.Sem
open Idealize.ShloMosaic.StableHlo
open Cert.ReferenceIdeal Cert.ReferenceIdeal.Gen Cert.ReferenceIdeal.Value

/-- The operations that compute the overlaps and start the loop's buffers. -/
abbrev overlapOps : List (HloOp τ sig (Elt Ideal)) := List.flatten [hostOps0_2, hostOps0_3, hostOps0_4]

/-- The matrix of overlaps, read at two boxes. -/
theorem overlaps_at (W : Valuation τ sig (Elt Ideal)) (X : FVec Ideal S2000x4 .f32) (hX : W (Proc.devRef .tc main_v0) = X) (i j : Fin 2000) :
    (after overlapOps W (Proc.devRef .tc main_v44_0) : FVec Ideal S2000x2000 .f32) (ix2 i j)
      = ratio (X (ix2 i 0)) (X (ix2 i 1)) (X (ix2 i 2)) (X (ix2 i 3)) (X (ix2 j 0)) (X (ix2 j 1)) (X (ix2 j 2)) (X (ix2 j 3)) := by
  unfold ratio interOf
  after_reads_simp
  rw [hX]
  simp -implicitDefEqProofs only [TRef.toBuf, TRef.ofBuf, cast_cast, cast_eq, id_eq]
  clean_types
  pointwise
  simp only [max_comm (0 : EReal)]

/-- Reading one row of a matrix. -/
theorem row_eq (I : FVec Ideal S2000x2000 .f32) {k : ℕ} (hk : k < 2000) (st : Fin 2 → Int) (h : S2000x2000.Slices (fun _ => 0) S1x2000) (h' : S1x2000.ShapeCasts S2000)
    (e0 : st 0 = k) (e1 : st 1 = 0) : shapeCast S2000 (Host.dynamicSlice S1x2000 I st h) h' = fun j => I (ix2 ⟨k, hk⟩ (j 0)) := by
  funext j
  obtain ⟨j, rfl⟩ : ∃ x : Fin 2000, j = ix1 x := ⟨j 0, eq_ix1 j⟩
  pointwise
  refine congrArg I (congrArg₂ ix2 (Fin.ext ?_) (Fin.ext ?_))
  · show (min (max (st 0) 0) ((2000 - 1 : ℕ) : ℤ)).toNat = k
    rw [e0]; omega
  · show (min (max (st 1) 0) ((2000 - 2000 : ℕ) : ℤ)).toNat + j.val = j.val
    rw [e1]; omega

/-- Reading one entry of a vector. -/
theorem one_eq (S : IVec S2000 1) {k : ℕ} (hk : k < 2000) (st : Fin 1 → Int) (h : S2000.Slices (fun _ => 0) S1) (h' : S1.ShapeCasts S_)
    (e0 : st 0 = k) : shapeCast S_ (Host.dynamicSlice S1 S st h) h' = fun _ => S (ix1 ⟨k, hk⟩) := by
  funext j
  pointwise
  refine congrArg S (congrArg ix1 (Fin.ext ?_))
  show (min (max (st 0) 0) ((2000 - 1 : ℕ) : ℤ)).toNat = k
  rw [e0]; omega

/-- The loop's counter is not negative, so it indexes as it stands. -/
theorem start_eq {k : ℕ} (hk : k < 2000) :
    (Scalar.select (IntOp.cmpi .slt (Scf.iv 0#32 1#32 k) 0#32) (IntOp.addi (Scf.iv 0#32 1#32 k) 2000#32) (Scf.iv 0#32 1#32 k)).toInt = k := by
  rw [iv_eq, show IntOp.cmpi .slt (BitVec.ofNat 32 k) 0#32 = IntOp.cmpi .sgt (BitVec.ofNat 32 0) (BitVec.ofNat 32 k) from rfl,
    cmpi_sgt (by omega) (by omega), select_bool, if_neg (Nat.not_lt_zero k), BitVec.toInt_eq_toNat_of_lt (by rw [BitVec.toNat_ofNat]; omega), BitVec.toNat_ofNat]
  omega

/-- One trip of the loop, read at a box. -/
theorem step_at (V : Valuation τ sig (Elt Ideal)) (I : FVec Ideal S2000x2000 .f32) (S : IVec S2000 1) {k : ℕ} (hk : k < 2000)
    (h0 : V (Proc.devRef .tc main_v44_0) = I) (h1 : V (Proc.devRef .tc main_v44_1) = iotaInDim S2000 32 0)
    (h3 : V (Proc.devRef .tc main_v44_3) = fun _ => Scf.iv 0#32 1#32 k) (h4 : V (Proc.devRef .tc main_v44_4) = S) (j : Fin 2000) :
    (step_main_v44_4 V : IVec S2000 1) (ix1 j)
      = S (ix1 j) ||| (BitVec.ofBool (decide (Ideal.ofBits .f32 0x3F000000#32 < I (ix2 ⟨k, hk⟩ j))) &&& BitVec.ofBool (decide (k < j.val))) &&& ~~~ S (ix1 ⟨k, hk⟩) := by
  unfold step_main_v44_4 res_main_while0b_v52
  rw [h0, h1, h3, h4]
  simp only [id_eq]
  rw [row_eq I hk _ _ _ (start_eq hk) rfl, one_eq S hk _ _ _ (start_eq hk)]
  pointwise
  rw [iv_eq, cmpi_sgt (by omega) (by omega)]
  rfl

/-! ## The loop -/

open scoped Classical

/-- Box `i` overlaps box `j`. -/
def refM (X : FVec Ideal S2000x4 .f32) (i j : ℕ) : Prop :=
  Over (X (ix2 ⟨i % 2000, Nat.mod_lt _ (by decide)⟩ 0)) (X (ix2 ⟨i % 2000, Nat.mod_lt _ (by decide)⟩ 1))
    (X (ix2 ⟨i % 2000, Nat.mod_lt _ (by decide)⟩ 2)) (X (ix2 ⟨i % 2000, Nat.mod_lt _ (by decide)⟩ 3))
    (X (ix2 ⟨j % 2000, Nat.mod_lt _ (by decide)⟩ 0)) (X (ix2 ⟨j % 2000, Nat.mod_lt _ (by decide)⟩ 1))
    (X (ix2 ⟨j % 2000, Nat.mod_lt _ (by decide)⟩ 2)) (X (ix2 ⟨j % 2000, Nat.mod_lt _ (by decide)⟩ 3))

/-- The operation on marks that a trip performs. -/
theorem mark_step {a b c d e : Prop} [Decidable b] [Decidable c] (h : e ↔ a ∨ (c ∧ b ∧ ¬ d)) :
    BitVec.ofBool (decide a) ||| (BitVec.ofBool (decide b) &&& BitVec.ofBool (decide c)) &&& ~~~ BitVec.ofBool (decide d) = BitVec.ofBool (decide e) := by
  by_cases ha : a <;> by_cases hb : b <;> by_cases hc : c <;> by_cases hd : d <;> simp [h, ha, hb, hc, hd]

/-- Counting one more trip. -/
theorem iv_succ (k : ℕ) : (addi (fun _ : S_.Idx => Scf.iv 0#32 1#32 k) (constantI S_ 32 1#32)) = fun _ => Scf.iv 0#32 1#32 (k + 1) := by
  funext i
  rw [iv_eq, iv_eq]
  show BitVec.ofNat 32 k + 1#32 = _
  apply BitVec.eq_of_toNat_eq
  simp [BitVec.toNat_add, BitVec.toNat_ofNat]

/-- Before trip `k` a box is marked where one of the first `k` boxes suppresses it. -/
theorem iterate_at (V : Valuation τ sig (Elt Ideal)) (I : FVec Ideal S2000x2000 .f32) (M : ℕ → ℕ → Prop)
    (hM : ∀ i j : Fin 2000, Ideal.ofBits .f32 0x3F000000#32 < I (ix2 i j) ↔ M i.val j.val)
    (h0 : V (Proc.devRef .tc main_v44_0) = I) (h1 : V (Proc.devRef .tc main_v44_1) = iotaInDim S2000 32 0)
    (h3 : V (Proc.devRef .tc main_v44_3) = fun _ => Scf.iv 0#32 1#32 0) (h4 : ∀ j : Fin 2000, (V (Proc.devRef .tc main_v44_4) : IVec S2000 1) (ix1 j) = 0#1) :
    ∀ k, k ≤ 2000 → (STEP^[k] V) (Proc.devRef .tc main_v44_0) = I ∧ (STEP^[k] V) (Proc.devRef .tc main_v44_1) = iotaInDim S2000 32 0
      ∧ ((STEP^[k] V) (Proc.devRef .tc main_v44_3) = fun _ => Scf.iv 0#32 1#32 k)
      ∧ ∀ j : Fin 2000, ((STEP^[k] V) (Proc.devRef .tc main_v44_4) : IVec S2000 1) (ix1 j) = BitVec.ofBool (decide (Upto M k j.val)) := by
  intro k
  induction k with
  | zero =>
    refine fun _ => ⟨h0, h1, h3, fun j => (h4 j).trans ?_⟩
    rw [decide_eq_false upto_zero]
    rfl
  | succ k ih =>
    intro hk
    obtain ⟨i0, i1, i3, i4⟩ := ih (by omega)
    rw [Function.iterate_succ_apply']
    refine ⟨(STEP_main_v44_0 _).trans i0, (STEP_main_v44_1 _).trans i1, (STEP_main_v44_3 _).trans ?_, fun j => ?_⟩
    · unfold step_main_v44_3
      rw [i3]
      exact iv_succ k
    · rw [STEP_main_v44_4]
      refine (step_at (STEP^[k] V) I _ (by omega) i0 i1 i3 rfl j).trans ?_
      rw [i4 j, i4 ⟨k, by omega⟩]
      refine mark_step ?_
      rw [upto_succ, hM, upto_sup (le_refl k)]

variable (m : (ℓ : Loc nD τ sig) → Buf (Elt Ideal) ℓ) (c : Dev nD)

/-- The boxes the reference selects. -/
abbrev chosen : FVec Ideal S2000x4 .f32 := entryContents preI m c (Proc.devRef .tc main_v0)

/-- After the loop a box is marked where it is suppressed. -/
theorem marks_at (j : Fin 2000) :
    (after condOps (atK m 2000 c) (Proc.devRef .tc main_v44_4) : IVec S2000 1) (ix1 j) = BitVec.ofBool (decide (Sup (refM (chosen m c)) j.val)) := by
  have hE : entryContents preI m c = after overlapOps (after hostOps0_1 (after hostOps0 (launchContents m c))) := by
    show afterL [hostOps0_2, hostOps0_3, hostOps0_4] (after hostOps0_1 (after hostOps0 (launchContents m c))) = _
    exact afterL_eq_after_flatten _ _
  generalize hW : after hostOps0_1 (after hostOps0 (launchContents m c)) = W at hE
  have hX : W (Proc.devRef .tc main_v0) = chosen m c := by
    unfold chosen
    rw [hE]
    after_reads_simp
  rw [cond_keeps _ main_v44_4 (by decide), atK_agree m c 2000 main_v44_4 (by decide)]
  refine ((iterate_at (entryContents preI m c) (entryContents preI m c (Proc.devRef .tc main_v44_0)) (refM (chosen m c)) ?_ rfl ?_ ?_ ?_ 2000 le_rfl).2.2.2 j).trans ?_
  · intro a b
    unfold refM Over
    rw [hE, overlaps_at W (chosen m c) hX a b]
    simp only [Nat.mod_eq_of_lt a.isLt, Nat.mod_eq_of_lt b.isLt]
  · rw [hE]
    after_reads_simp
    rfl
  · rw [hE]
    after_reads_simp
    rfl
  · intro j
    rw [hE]
    after_reads_simp
    rfl
  · rw [propext (upto_sup (Nat.le_of_lt j.isLt))]

end Cert.Nms.Ref

end
-- ==== Proof.Nms.Agree.lean ====
/- The kernel and the reference agree: the launch leaves the suppression array, whose zeros are the reference's unmarked boxes. -/
module

public import proofs.«01_k».proof.Proof.Nms.Launch
public import proofs.«01_k».proof.Proof.Nms.Heads
public import proofs.«01_k».proof.Proof.Nms.RefValue
public import Idealize.ShloMosaic.Lib.Pipeline.ValueKit

@[expose] public section

set_option maxRecDepth 16384

noncomputable section

namespace Cert.Nms

open Idealize.ShloMosaic Idealize.ShloMosaic.TcCoe Idealize.SL.Sem
open Idealize.ShloMosaic.StableHlo
open Cert.KernelIdeal Cert.KernelIdeal.Gen
open scoped Classical

/-! ## What the kernel is launched on -/

/-- The corner coordinates of the boxes `X`, in both layouts. -/
def cornersOf {F : FTy → Type} [FloatOps F] (X : FVec F S2000x4 .f32) : Boxes F where
  r0 := shapeCast S16x128 (corner X 0 slices_S2048x4_S2048x1_0_0) shapeCasts_S2048_S16x128
  r1 := shapeCast S16x128 (corner X 1 slices_S2048x4_S2048x1_0_1) shapeCasts_S2048_S16x128
  r2 := shapeCast S16x128 (corner X 2 slices_S2048x4_S2048x1_0_2) shapeCasts_S2048_S16x128
  r3 := shapeCast S16x128 (corner X 3 slices_S2048x4_S2048x1_0_3) shapeCasts_S2048_S16x128
  c0 := shapeCast S2048x1 (corner X 0 slices_S2048x4_S2048x1_0_0) shapeCasts_S2048_S2048x1
  c1 := shapeCast S2048x1 (corner X 1 slices_S2048x4_S2048x1_0_1) shapeCasts_S2048_S2048x1
  c2 := shapeCast S2048x1 (corner X 2 slices_S2048x4_S2048x1_0_2) shapeCasts_S2048_S2048x1
  c3 := shapeCast S2048x1 (corner X 3 slices_S2048x4_S2048x1_0_3) shapeCasts_S2048_S2048x1

section Launched

variable {F : FTy → Type} [FloatOps F] (m : (ℓ : Loc nD τ sig) → Buf (Elt F) ℓ) (c : Dev nD)

/-- Every input window's block index at the one point. -/
theorem index_zero : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

set_option maxHeartbeats 2000000 in
/-- Every input window's block is its whole array. -/
theorem iblk_whole :
    iblk m c 0 t0_0 = V m c main_v10 ∧ iblk m c 1 t0_0 = V m c main_v11 ∧ iblk m c 2 t0_0 = V m c main_v12
    ∧ iblk m c 3 t0_0 = V m c main_v13 ∧ iblk m c 4 t0_0 = V m c main_v14 ∧ iblk m c 5 t0_0 = V m c main_v15
    ∧ iblk m c 6 t0_0 = V m c main_v16 ∧ iblk m c 7 t0_0 = V m c main_v17 := by
  refine ⟨?_, ?_, ?_, ?_, ?_, ?_, ?_, ?_⟩ <;> blk_ext! [iblk, index_zero t0_0]

/-- The boxes the kernel program selects. -/
abbrev picked : FVec F S2000x4 .f32 := sel fun b => m (c, b)

/-- The kernel is launched on the corners of the selected boxes. -/
theorem boxes_eq : boxes m c t0_0 = cornersOf (picked m c) := by
  obtain ⟨b0, b1, b2, b3, b4, b5, b6, b7⟩ := iblk_whole m c
  obtain ⟨e0, e1, e2, e3, e4, e5, e6, e7⟩ := corners_eq fun b => m (c, b)
  unfold boxes cornersOf
  rw [b0, b1, b2, b3, b4, b5, b6, b7, ← e0, ← e1, ← e2, ← e3, ← e4, ← e5, ← e6, ← e7]

/-- The launch leaves the suppression array. -/
theorem launch_leaves : (dats m 0 c).arrAt 8 cfg0.N = finalRows (boxes m c t0_0) := by
  refine (dats m 0 c).arrAt_eq_of_after_last 8 t0_0 (by decide +kernel) _ fun j => ?_
  blk_simp
  rw [after8]

/-- The contents when the launch has ended. -/
def launched : Valuation τ sig (Elt F) :=
  Pipeline.withArrays (cfgs 0).spec c (V0 m c) fun w => (dats m 0 c).arrAt w (cfgs 0).N

/-- The output buffer then holds the suppression array of the selected boxes. -/
theorem launched_rows : launched m c (Proc.devRef .tc main_v18) = finalRows (cornersOf (picked m c)) := by
  rw [← boxes_eq, ← launch_leaves]
  exact Pipeline.withArrays_arr spec0 (by decide) c (V0 m c) (fun w => (dats m 0 c).arrAt w (cfgs 0).N) 8

/-- The launch leaves the selected boxes in place, -/
theorem launched_boxes : launched m c (Proc.devRef .tc main_v0) = picked m c :=
  Pipeline.withArrays_of_ne _ c (V0 m c) _ main_v0 (by decide)

/-- and their scores. -/
theorem launched_values : launched m c (Proc.devRef .tc main_values) = after kernelHead (fun b => m (c, b)) (Proc.devRef .tc main_values) :=
  Pipeline.withArrays_of_ne _ c (V0 m c) _ main_values (by decide)

/-- The kernel's run: the result at the closing operations' value, the arguments as they began. -/
theorem kernel_value (ρ : Dev nD → PrngReg) : θ_run defs (onTc (τ := τ) (main (F := F))) ⟨m, fun _ => 0, ρ⟩ (fun r => ∀ c : Dev nD,
      r.2.mem ((c.tc : Thread nD τ).loc main_v27) = after kernelTail (launched m c) (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).2 main_v27 (Pipeline.mem_restRefs_of main_v27 (by decide) (by decide)), h.2 c⟩)
    (θ_run_and (run m ρ) (frame_of m ρ (dats m) (A_eq m) (run m ρ)))

end Launched

/-! ## The suppression array against the reference's marks -/

/-- In the column layout, coordinate `k` of box `i` is at row `i`. -/
theorem col_mod (X : FVec Ideal S2000x4 .f32) (k : ℕ) (h : S2048x4.Slices ![0, k] S2048x1) (hk : k < 4) (i : ℕ) (hi : i < 2000) :
    shapeCast S2048x1 (corner X k h) shapeCasts_S2048_S2048x1 (ix2 ⟨i % 2048, Nat.mod_lt _ (by decide)⟩ 0)
      = X (ix2 ⟨i % 2000, Nat.mod_lt _ (by decide)⟩ ⟨k, hk⟩) := by
  have h1 : i % 2048 = i := by omega
  rw [col_at X k h hk _ (by show i % 2048 < 2000; omega)]
  simp only [h1, Nat.mod_eq_of_lt hi]

/-- In the row layout, coordinate `k` of box `j` is at row `j / 128`, lane `j % 128`. -/
theorem row_mod (X : FVec Ideal S2000x4 .f32) (k : ℕ) (h : S2048x4.Slices ![0, k] S2048x1) (hk : k < 4) (j : ℕ) (hj : j < 2000) :
    shapeCast S16x128 (corner X k h) shapeCasts_S2048_S16x128 (ix2 ⟨j / 128 % 16, Nat.mod_lt _ (by decide)⟩ ⟨j % 128, Nat.mod_lt _ (by decide)⟩)
      = X (ix2 ⟨j % 2000, Nat.mod_lt _ (by decide)⟩ ⟨k, hk⟩) := by
  have h1 : 128 * (j / 128 % 16) + j % 128 = j := by omega
  rw [row_at X k h hk _ _ (by show 128 * (j / 128 % 16) + j % 128 < 2000; omega)]
  simp only [h1, Nat.mod_eq_of_lt hj]

/-- Among the 2000 boxes, the kernel's overlaps are the reference's. -/
theorem overlap_agree (X : FVec Ideal S2000x4 .f32) (i j : ℕ) (hi : i < 2000) (hj : j < 2000) :
    boxM (cornersOf X) i j ↔ Ref.refM X i j := by
  unfold boxM Ref.refM cornersOf
  dsimp only
  rw [col_mod X 0 _ (by decide) i hi, col_mod X 1 _ (by decide) i hi, col_mod X 2 _ (by decide) i hi, col_mod X 3 _ (by decide) i hi,
    row_mod X 0 _ (by decide) j hj, row_mod X 1 _ (by decide) j hj, row_mod X 2 _ (by decide) j hj, row_mod X 3 _ (by decide) j hj]
  rfl

/-- The kernel keeps the boxes the reference leaves unmarked. -/
theorem keep_agree (X : FVec Ideal S2000x4 .f32) (K : IVec S2000 1)
    (hK : ∀ j : Fin 2000, K (ix1 j) = BitVec.ofBool (decide (Sup (Ref.refM X) j.val))) :
    (cmpf .olt
        (extractStridedSlice S2000 ![0] (shapeCast S2048 (finalRows (cornersOf X)) shapeCasts_S16x128_S2048) slices_S2048_S2000_0)
        (broadcastInDim S2000 ![] bcast_S_S2000 (constant S_ .f32 0x3F000000#32)) : IVec S2000 1) = noti K := by
  funext i
  obtain ⟨j, rfl⟩ : ∃ j : Fin 2000, i = ix1 j := ⟨i 0, funext fun a => match a with | ⟨0, _⟩ => rfl⟩
  have hn : noti K (ix1 j) = ~~~ K (ix1 j) := rfl
  rw [hn, hK]
  have hj := j.isLt
  have hS := blocks_at (cornersOf X) (fun _ => Scalar.ofBits (F := Ideal) .f32 0x00000000#32) ⟨j.val / 128, by omega⟩ ⟨j.val % 128, by omega⟩
  have e : 128 * (j.val / 128) + j.val % 128 = j.val := by omega
  simp only [e] at hS
  pointwise
  rw [show finalRows (cornersOf X) (ix2 ⟨j.val / 128, by omega⟩ ⟨j.val % 128, by omega⟩) = _ from hS]
  have hk := (ind_lt_half (Sup (boxM (cornersOf X)) j.val)).trans (not_congr (sup_congr (overlap_agree X) j.val hj))
  by_cases h : Sup (Ref.refM X) j.val
  · rw [decide_eq_true h, decide_eq_false fun h' => hk.mp h' h]
    rfl
  · rw [decide_eq_false h, decide_eq_true (hk.mpr h)]
    rfl

/-! ## The two programs -/

section Both

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- From equal arguments the two results are equal. -/
theorem results_agree (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1)) :
    after kernelTail (launched m c) (Proc.devRef .tc main_v27)
      = afterL Cert.ReferenceIdeal.Value.postI (after Cert.ReferenceIdeal.Value.condOps (Cert.ReferenceIdeal.Value.atK m' 2000 c)) (Proc.devRef .tc Cert.ReferenceIdeal.main_v50) := by
  have hX : picked m c = Ref.chosen m' c := boxes_agree (fun b => m (c, b)) (launchContents m' c) h0.symm h1.symm
  refine tails_agree _ _ ?_ ?_ ?_
  · rw [launched_boxes, hX, after_of_writes_sub _ _ Cert.ReferenceIdeal.Value.condOps_writes (by decide),
      Ref.trips_keep m' c Cert.ReferenceIdeal.main_v0 (by decide) (by decide)]
  · rw [launched_values, after_of_writes_sub _ _ Cert.ReferenceIdeal.Value.condOps_writes (by decide),
      Ref.trips_keep m' c Cert.ReferenceIdeal.main_values (by decide) (by decide)]
    exact values_agree (fun b => m (c, b)) (launchContents m' c) h1.symm
  · rw [launched_rows, hX]
    exact keep_agree _ _ (Ref.marks_at m' c)

/-- The algebraic claim: from memories agreeing on the arguments both programs run and end with equal results, the arguments unchanged. -/
theorem algebraic (g : Dev nD → PrngReg) (g' : Dev Cert.ReferenceIdeal.nD → PrngReg)
    (h : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)) :
    ∃ v : (c : Dev nD) → Buf (Elt Ideal) ((c.tc : Thread nD τ).loc main_v27),
      θ_run (defs (F := Ideal)) (onTc (τ := τ) (main (F := Ideal))) ⟨m, fun _ => 0, g⟩ (fun r => ∀ c : Dev nD,
          r.2.mem ((c.tc : Thread nD τ).loc main_v27) = v c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev nD,
          r.2.mem ((c.tc : Thread Cert.ReferenceIdeal.nD Cert.ReferenceIdeal.τ).loc Cert.ReferenceIdeal.main_v50) = v c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  ⟨fun c => after kernelTail (launched m c) (Proc.devRef .tc main_v27), kernel_value m g,
    (θ_run Cert.ReferenceIdeal.defs _ _).mono (fun _ hr c => ⟨(hr c).1.trans (results_agree m m' c (h c).1 (h c).2).symm, (hr c).2⟩) (Ref.run m' g')⟩

end Both

end Cert.Nms

end
-- ==== Proof.lean ====
/-
  The proof of `Cert.Claim`: each of its conjuncts from the module that proves it.
-/
module

public import proofs.«01_k».proof.Defs
public import proofs.«01_k».proof.Proof.Nms.Same
public import proofs.«01_k».proof.Proof.Nms.Ref
public import proofs.«01_k».proof.Proof.Nms.Agree

@[expose] public section

noncomputable section

namespace Cert.Proof

open Idealize.ShloMosaic Idealize.SL.Sem

/-- The certificate's claim. -/
theorem claim : Cert.Claim :=
  ⟨Cert.Kernel.Gen.facts, Cert.KernelIdeal.Gen.facts, Cert.ReferenceIdeal.Gen.facts,
    fun m g _ => Cert.Nms.printed_quiescent m g,
    fun m g _ => Cert.Nms.kernel_quiescent m g,
    fun m g _ => Cert.Nms.Ref.reference_quiescent m g,
    trivial,
    fun m g m' g' _ h => Cert.Nms.algebraic m m' g g' h⟩

end Cert.Proof

end
